-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v85_0)) (v1 : (c : Dev Cert.Kernel2Ideal.nD) → Buf (Elt Ideal) ((c.tc : Thread Cert.Kernel2Ideal.nD Cert.Kernel2Ideal.τ).loc Cert.Kernel2Ideal.main_v85_1)) (v2 : (c : Dev Cert.Kernel2Ideal.nD) → Buf (Elt Ideal) ((c.tc : Thread Cert.Kernel2Ideal.nD Cert.Kernel2Ideal.τ).loc Cert.Kernel2Ideal.main_v85_2)) (v3 : (c : Dev Cert.Kernel2Ideal.nD) → Buf (Elt Ideal) ((c.tc : Thread Cert.Kernel2Ideal.nD Cert.Kernel2Ideal.τ).loc Cert.Kernel2Ideal.main_v85_3)) (v4 : (c : Dev Cert.Kernel2Ideal.nD) → Buf (Elt Ideal) ((c.tc : Thread Cert.Kernel2Ideal.nD Cert.Kernel2Ideal.τ).loc Cert.Kernel2Ideal.main_v85_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v85_0) = v0 c
          ∧ r.2.mem ((c.tc : Thread Cert.Kernel2Ideal.nD Cert.Kernel2Ideal.τ).loc Cert.Kernel2Ideal.main_v85_1) = v1 c
          ∧ r.2.mem ((c.tc : Thread Cert.Kernel2Ideal.nD Cert.Kernel2Ideal.τ).loc Cert.Kernel2Ideal.main_v85_2) = v2 c
          ∧ r.2.mem ((c.tc : Thread Cert.Kernel2Ideal.nD Cert.Kernel2Ideal.τ).loc Cert.Kernel2Ideal.main_v85_3) = v3 c
          ∧ r.2.mem ((c.tc : Thread Cert.Kernel2Ideal.nD Cert.Kernel2Ideal.τ).loc Cert.Kernel2Ideal.main_v85_10) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_v54) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v85_0)) (v1 : (c : Dev Cert.Kernel4Ideal.nD) → Buf (Elt Ideal) ((c.tc : Thread Cert.Kernel4Ideal.nD Cert.Kernel4Ideal.τ).loc Cert.Kernel4Ideal.main_v85_1)) (v2 : (c : Dev Cert.Kernel4Ideal.nD) → Buf (Elt Ideal) ((c.tc : Thread Cert.Kernel4Ideal.nD Cert.Kernel4Ideal.τ).loc Cert.Kernel4Ideal.main_v85_2)) (v3 : (c : Dev Cert.Kernel4Ideal.nD) → Buf (Elt Ideal) ((c.tc : Thread Cert.Kernel4Ideal.nD Cert.Kernel4Ideal.τ).loc Cert.Kernel4Ideal.main_v85_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v85_0) = v0 c
          ∧ r.2.mem ((c.tc : Thread Cert.Kernel4Ideal.nD Cert.Kernel4Ideal.τ).loc Cert.Kernel4Ideal.main_v85_1) = v1 c
          ∧ r.2.mem ((c.tc : Thread Cert.Kernel4Ideal.nD Cert.Kernel4Ideal.τ).loc Cert.Kernel4Ideal.main_v85_2) = v2 c
          ∧ r.2.mem ((c.tc : Thread Cert.Kernel4Ideal.nD Cert.Kernel4Ideal.τ).loc Cert.Kernel4Ideal.main_v85_9) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S4x4x4096x256 : Shape := ⟨4, ![4, 4, 4096, 256]⟩
abbrev S4x4x4096x128 : Shape := ⟨4, ![4, 4, 4096, 128]⟩
abbrev S16384x512 : Shape := ⟨2, ![16384, 512]⟩
abbrev S_ : Shape := ⟨0, ![]⟩

class Facts : Prop where
  bitsLt_bf16_f32 : FTy.bits .bf16 < FTy.bits .f32
  bcast_S_S4x4x4096x256 : S_.BroadcastsInDim S4x4x4096x256 (![] : Fin 0 → Fin S4x4x4096x256.rank)

variable [Facts]

def fn {F : FTy → Type} [FloatOps F] (main_arg0 : FVec F S4x4x4096x256 .bf16) (main_arg1 : FVec F S4x4x4096x256 .bf16) (main_arg2 : FVec F S4x4x4096x128 .bf16) (main_arg3 : FVec F S16384x512 .bf16) : IVec S4x4x4096x256 1 × IVec S4x4x4096x256 1 :=
  let main_v0 : FVec F S4x4x4096x256 .f32 := (extf .f32 · bitsLt_bf16_f32) main_arg0
  let main_v1 : FVec F S4x4x4096x256 .f32 := Host.absf main_v0
  let main_cst : FVec F S_ .f32 := constant S_ .f32 0x7F800000#32
  let main_v2 : FVec F S4x4x4096x256 .f32 := broadcastInDim S4x4x4096x256 ![] bcast_S_S4x4x4096x256 main_cst
  let main_v3 : IVec S4x4x4096x256 1 := cmpf .olt main_v1 main_v2
  let main_v4 : FVec F S4x4x4096x256 .f32 := (extf .f32 · bitsLt_bf16_f32) main_arg1
  let main_v5 : FVec F S4x4x4096x256 .f32 := Host.absf main_v4
  let main_cst_0 : FVec F S_ .f32 := constant S_ .f32 0x7F800000#32
  let main_v6 : FVec F S4x4x4096x256 .f32 := broadcastInDim S4x4x4096x256 ![] bcast_S_S4x4x4096x256 main_cst_0
  let main_v7 : IVec S4x4x4096x256 1 := cmpf .olt main_v5 main_v6
  (main_v3, main_v7)
-- ==== Kernel.lean ====
abbrev S4x4x4096x256 : Shape := ⟨4, ![4, 4, 4096, 256]⟩
abbrev S4x4x4096x128 : Shape := ⟨4, ![4, 4, 4096, 128]⟩
abbrev S16384x512 : Shape := ⟨2, ![16384, 512]⟩
abbrev S1x2x4096x256 : Shape := ⟨4, ![1, 2, 4096, 256]⟩
abbrev S1x2x4096x128 : Shape := ⟨4, ![1, 2, 4096, 128]⟩
abbrev S4096x256 : Shape := ⟨2, ![4096, 256]⟩
abbrev S512x128 : Shape := ⟨2, ![512, 128]⟩
abbrev S256x256 : Shape := ⟨2, ![256, 256]⟩
abbrev S256x512 : Shape := ⟨2, ![256, 512]⟩
abbrev S1x1x512x256 : Shape := ⟨4, ![1, 1, 512, 256]⟩
abbrev S512x256 : Shape := ⟨2, ![512, 256]⟩
abbrev S1x1x512x128 : Shape := ⟨4, ![1, 1, 512, 128]⟩
abbrev S512x1 : Shape := ⟨2, ![512, 1]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x4x4096x256, .bf16⟩
  | .hbm, ⟨1, _⟩ => ⟨S4x4x4096x256, .bf16⟩
  | .hbm, ⟨2, _⟩ => ⟨S4x4x4096x128, .bf16⟩
  | .hbm, ⟨3, _⟩ => ⟨S16384x512, .bf16⟩
  | .hbm, ⟨4, _⟩ => ⟨S16384x512, .bf16⟩
  | .local _ .vmem, ⟨0, _⟩ => ⟨S1x2x4096x256, .bf16⟩
  | .local _ .vmem, ⟨1, _⟩ => ⟨S1x2x4096x256, .bf16⟩
  | .local _ .vmem, ⟨2, _⟩ => ⟨S1x2x4096x256, .bf16⟩
  | .local _ .vmem, ⟨3, _⟩ => ⟨S1x2x4096x256, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | _, _ => ⟨S4x4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4x4096x256 : Shape := ⟨4, ![4, 4, 4096, 256]⟩
abbrev S4x4x4096x128 : Shape := ⟨4, ![4, 4, 4096, 128]⟩
abbrev S16384x512 : Shape := ⟨2, ![16384, 512]⟩
abbrev S4x4x4096x4096 : Shape := ⟨4, ![4, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096 : Shape := ⟨3, ![4, 4, 4096]⟩
abbrev S4x4x4096x1 : Shape := ⟨4, ![4, 4, 4096, 1]⟩
abbrev S4x4096x4x128 : Shape := ⟨4, ![4, 4096, 4, 128]⟩

abbrev nBuf : Space → Nat
  | .hbm => 44
  | .vmem => 0
  | .smem => 0
  | _ => 0

abbrev bufTy : (tb : Table) → Fin (tcTables nBuf tb) → BufTy
  | .hbm, ⟨0, _⟩ => ⟨S4x4x4096x256, .bf16⟩
  | .hbm, ⟨1, _⟩ => ⟨S4x4x4096x256, .bf16⟩
  | .hbm, ⟨2, _⟩ => ⟨S4x4x4096x128, .bf16⟩
  | .hbm, ⟨3, _⟩ => ⟨S16384x512, .bf16⟩
  | .hbm, ⟨4, _⟩ => ⟨S4x4x4096x256, .f32⟩
  | .hbm, ⟨5, _⟩ => ⟨S4x4x4096x256, .f32⟩
  | .hbm, ⟨6, _⟩ => ⟨S4x4x4096x128, .f32⟩
  | .hbm, ⟨7, _⟩ => ⟨S16384x512, .f32⟩
  | .hbm, ⟨8, _⟩ => ⟨S4x4x4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4x4096x4096, .f32⟩
  | .hbm, ⟨13, _⟩ => ⟨S4x4x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4x4x4096x4096, .i1⟩
  | .hbm, ⟨23, _⟩ => ⟨S4x4x4096x4096, .f32⟩
  | .hbm, ⟨24, _⟩ => ⟨S4x4x4096x4096, .f32⟩
  | .hbm, ⟨25, _⟩ => ⟨S_, .f32⟩
  | .hbm, ⟨26, _⟩ => ⟨S4x4x4096, .f32⟩
  | .hbm, ⟨27, _⟩ => ⟨S_, .f32⟩
  | .hbm, ⟨28, _⟩ => ⟨S4x4x4096, .f32⟩
  | .hbm, ⟨29, _⟩ => ⟨S4x4x4096, .f32⟩
  | .hbm, ⟨30, _⟩ => ⟨S4x4x4096x1, .f32⟩
  | .hbm, ⟨31, _⟩ => ⟨S4x4x4096x4096, .f32⟩
  | .hbm, ⟨32, _⟩ => ⟨S4x4x4096x4096, .f32⟩
  | .hbm, ⟨33, _⟩ => ⟨S4x4x4096x4096, .f32⟩
  | .hbm, ⟨34, _⟩ => ⟨S_, .f32⟩
  | .hbm, ⟨35, _⟩ => ⟨S4x4x4096, .f32⟩
  | .hbm, ⟨36, _⟩ => ⟨S4x4x4096x1, .f32⟩
  | .hbm, ⟨37, _⟩ => ⟨S4x4x4096x4096, .f32⟩
  | .hbm, ⟨38, _⟩ => ⟨S4x4x4096x4096, .f32⟩
  | .hbm, ⟨39, _⟩ => ⟨S4x4x4096x128, .f32⟩
  | .hbm, ⟨40, _⟩ => ⟨S4x4096x4x128, .f32⟩
  | .hbm, ⟨41, _⟩ => ⟨S16384x512, .f32⟩
  | .hbm, ⟨42, _⟩ => ⟨S16384x512, .f32⟩
  | .hbm, ⟨43, _⟩ => ⟨S16384x512, .bf16⟩
  | _, _ => ⟨S4x4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S4x4096 : Shape := ⟨2, ![4, 4096]⟩
abbrev S4x1024 : Shape := ⟨2, ![4, 1024]⟩
abbrev S4x1024x2512 : Shape := ⟨3, ![4, 1024, 2512]⟩
abbrev S4x16x256 : Shape := ⟨3, ![4, 16, 256]⟩
abbrev S4x256 : Shape := ⟨2, ![4, 256]⟩
abbrev S4x256x768 : Shape := ⟨3, ![4, 256, 768]⟩
abbrev S4x128 : Shape := ⟨2, ![4, 128]⟩
abbrev S4x128x1024 : Shape := ⟨3, ![4, 128, 1024]⟩
abbrev S4x192 : Shape := ⟨2, ![4, 192]⟩
abbrev S4x1024x1024 : Shape := ⟨3, ![4, 1024, 1024]⟩
abbrev S2 : Shape := ⟨1, ![2]⟩
abbrev S4x2512x1024 : Shape := ⟨3, ![4, 2512, 1024]⟩
abbrev S_ : Shape := ⟨0, ![]⟩
abbrev S4x48x1024 : Shape := ⟨3, ![4, 48, 1024]⟩
abbrev S4x192x1024 : Shape := ⟨3, ![4, 192, 1024]⟩
abbrev S4x16x1024 : Shape := ⟨3, ![4, 16, 1024]⟩
abbrev S4x256x1024 : Shape := ⟨3, ![4, 256, 1024]⟩
abbrev S4x128x256 : Shape := ⟨3, ![4, 128, 256]⟩
abbrev S1 : Shape := ⟨1, ![1]⟩
abbrev S4x256x4x192 : Shape := ⟨4, ![4, 256, 4, 192]⟩
abbrev S4x256x4x128 : Shape := ⟨4, ![4, 256, 4, 128]⟩
abbrev S4x256x512 : Shape := ⟨3, ![4, 256, 512]⟩
abbrev S4x256x4x64 : Shape := ⟨4, ![4, 256, 4, 64]⟩
abbrev S4x256x256 : Shape := ⟨3, ![4, 256, 256]⟩
abbrev S4x128x4x256 : Shape := ⟨4, ![4, 128, 4, 256]⟩
abbrev S4x128x4x128 : Shape := ⟨4, ![4, 128, 4, 128]⟩
abbrev S4x128x512 : Shape := ⟨3, ![4, 128, 512]⟩
abbrev S4x1x64 : Shape := ⟨3, ![4, 1, 64]⟩
abbrev S4x1x1024 : Shape := ⟨3, ![4, 1, 1024]⟩
abbrev S4x1x256 : Shape := ⟨3, ![4, 1, 256]⟩
abbrev S4x1x128 : Shape := ⟨3, ![4, 1, 128]⟩
abbrev S4x64 : Shape := ⟨2, ![4, 64]⟩
abbrev S4 : Shape := ⟨1, ![4]⟩
abbrev S32 : Shape := ⟨1, ![32]⟩
abbrev S1x32 : Shape := ⟨2, ![1, 32]⟩
abbrev S4x32 : Shape := ⟨2, ![4, 32]⟩
abbrev S128 : Shape := ⟨1, ![128]⟩
abbrev S2x32 : Shape := ⟨2, ![2, 32]⟩
abbrev S64 : Shape := ⟨1, ![64]⟩
abbrev S1x64 : Shape := ⟨2, ![1, 64]⟩
abbrev S2x64 : Shape := ⟨2, ![2, 64]⟩
abbrev S16384x1 : Shape := ⟨2, ![16384, 1]⟩
abbrev S1x128 : Shape := ⟨2, ![1, 128]⟩
abbrev S16384x128 : Shape := ⟨2, ![16384, 128]⟩
abbrev S16384x256 : Shape := ⟨2, ![16384, 256]⟩
abbrev S256x256 : Shape := ⟨2, ![256, 256]⟩
abbrev S4x4x4096x256 : Shape := ⟨4, ![4, 4, 4096, 256]⟩
abbrev S4x4x4096x128 : Shape := ⟨4, ![4, 4, 4096, 128]⟩
abbrev S512x1024 : Shape := ⟨2, ![512, 1024]⟩
abbrev S512x512 : Shape := ⟨2, ![512, 512]⟩
abbrev S1x1024x1024 : Shape := ⟨3, ![1, 1024, 1024]⟩
abbrev S1x1x1024 : Shape := ⟨3, ![1, 1, 1024]⟩
abbrev S1x2512x1024 : Shape := ⟨3, ![1, 2512, 1024]⟩
abbrev S1x256x1024 : Shape := ⟨3, ![1, 256, 1024]⟩
abbrev S512x128 : Shape := ⟨2, ![512, 128]⟩
abbrev S1x128x256 : Shape := ⟨3, ![1, 128, 256]⟩
abbrev S1x1x256 : Shape := ⟨3, ![1, 1, 256]⟩
abbrev S1x256x768 : Shape := ⟨3, ![1, 256, 768]⟩
abbrev S1x1x128 : Shape := ⟨3, ![1, 1, 128]⟩
abbrev S1x128x1024 : Shape := ⟨3, ![1, 128, 1024]⟩
abbrev S512x256 : Shape := ⟨2, ![512, 256]⟩
abbrev S8x256 : Shape := ⟨2, ![8, 256]⟩
abbrev S1x4x512x256 : Shape := ⟨4, ![1, 4, 512, 256]⟩
abbrev S1x4x512x128 : Shape := ⟨4, ![1, 4, 512, 128]⟩
abbrev S512x2560 : Shape := ⟨2, ![512, 2560]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S128x256 : Shape := ⟨2, ![128, 256]⟩
abbrev S1x256 : Shape := ⟨2, ![1, 256]⟩
abbrev S256x768 : Shape := ⟨2, ![256, 768]⟩
abbrev S512x768 : Shape := ⟨2, ![512, 768]⟩
abbrev S128x1024 : Shape := ⟨2, ![128, 1024]⟩
abbrev S256x1024 : Shape := ⟨2, ![256, 1024]⟩
abbrev S1x1x512x128 : Shape := ⟨4, ![1, 1, 512, 128]⟩

abbrev nBuf : Space → Nat
  | .hbm => 130
  | .vmem => 49
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S4x4096, .i32⟩
  | 4 => ⟨S4x1024, .f32⟩
  | 5 => ⟨S4x1024x2512, .f32⟩
  | 6 => ⟨S4x16x256, .f32⟩
  | 7 => ⟨S4x256, .f32⟩
  | 8 => ⟨S4x256, .f32⟩
  | 9 => ⟨S4x256x768, .f32⟩
  | 10 => ⟨S4x128, .f32⟩
  | 11 => ⟨S4x128x1024, .f32⟩
  | 12 => ⟨S4x192, .f32⟩
  | 13 => ⟨S4x192, .f32⟩
  | 14 => ⟨S4x1024x1024, .f32⟩
  | 15 => ⟨S2, .f32⟩
  | 16 => ⟨S4x2512x1024, .f32⟩
  | 17 => ⟨S4x2512x1024, .bf16⟩
  | 18 => ⟨S_, .bf16⟩
  | 19 => ⟨S4x48x1024, .bf16⟩
  | 20 => ⟨S4x192x1024, .bf16⟩
  | 21 => ⟨S4x16x1024, .bf16⟩
  | 22 => ⟨S4x256x1024, .bf16⟩
  | 23 => ⟨S_, .f32⟩
  | 24 => ⟨S4x128x256, .f32⟩
  | 25 => ⟨S_, .i32⟩
  | 26 => ⟨S1, .i32⟩
  | 27 => ⟨S4x128x256, .f32⟩
  | 28 => ⟨S4x128x256, .bf16⟩
  | 29 => ⟨S4x256x4x192, .f32⟩
  | 30 => ⟨S4x256x4x128, .f32⟩
  | 31 => ⟨S4x256x512, .f32⟩
  | 32 => ⟨S4x256x4x64, .f32⟩
  | 33 => ⟨S4x256x256, .f32⟩
  | 34 => ⟨S4x256x768, .f32⟩
  | 35 => ⟨S4x256x768, .bf16⟩
  | 36 => ⟨S4x128x4x256, .f32⟩
  | 37 => ⟨S4x128x4x128, .f32⟩
  | 38 => ⟨S4x128x512, .f32⟩
  | 39 => ⟨S4x128x4x128, .f32⟩
  | 40 => ⟨S4x128x512, .f32⟩
  | 41 => ⟨S4x128x1024, .f32⟩
  | 42 => ⟨S4x128x1024, .bf16⟩
  | 43 => ⟨S_, .f32⟩
  | 44 => ⟨S4x1x64, .f32⟩
  | 45 => ⟨S4x1x1024, .f32⟩
  | 46 => ⟨S4x1x256, .f32⟩
  | 47 => ⟨S4x1x256, .f32⟩
  | 48 => ⟨S4x1x128, .f32⟩
  | 49 => ⟨S4x128, .f32⟩
  | 50 => ⟨S4x1x128, .f32⟩
  | 51 => ⟨S4x64, .f32⟩
  | 52 => ⟨S4x1x64, .f32⟩
  | 53 => ⟨S4x1x128, .f32⟩
  | 54 => ⟨S4x128, .f32⟩
  | 55 => ⟨S4x1x128, .f32⟩
  | 56 => ⟨S4x64, .f32⟩
  | 57 => ⟨S4x1x64, .f32⟩
  | 58 => ⟨S4x1x128, .f32⟩
  | 59 => ⟨S4x1024x1024, .bf16⟩
  | 60 => ⟨S4x192, .f32⟩
  | 61 => ⟨S_, .f32⟩
  | 62 => ⟨S4, .f32⟩
  | 63 => ⟨S_, .f32⟩
  | 64 => ⟨S4, .f32⟩
  | 65 => ⟨S4, .f32⟩
  | 66 => ⟨S4x192, .f32⟩
  | 67 => ⟨S_, .f32⟩
  | 68 => ⟨S4, .f32⟩
  | 69 => ⟨S4, .f32⟩
  | 70 => ⟨S_, .f32⟩
  | 71 => ⟨S4, .f32⟩
  | 72 => ⟨S4, .i1⟩
  | 73 => ⟨S_, .f32⟩
  | 74 => ⟨S4x1x128, .f32⟩
  | 75 => ⟨S4, .f32⟩
  | 76 => ⟨S_, .f32⟩
  | 77 => ⟨S_, .f32⟩
  | 78 => ⟨S4, .f32⟩
  | 79 => ⟨S4, .f32⟩
  | 80 => ⟨S_, .i32⟩
  | 81 => ⟨S1, .i32⟩
  | 82 => ⟨S_, .i32⟩
  | 83 => ⟨S1, .i32⟩
  | 84 => ⟨S2, .i32⟩
  | 85 => ⟨S4x1x128, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S1x32, .f32⟩
  | 101 => ⟨S4x32, .f32⟩
  | 102 => ⟨S128, .f32⟩
  | 103 => ⟨S2x32, .f32⟩
  | 104 => ⟨S64, .f32⟩
  | 105 => ⟨S1x64, .f32⟩
  | 106 => ⟨S2x64, .f32⟩
  | 107 => ⟨S128, .f32⟩
  | 108 => ⟨S4x4096, .f32⟩
  | 109 => ⟨S16384x1, .f32⟩
  | 110 => ⟨S1x128, .f32⟩
  | 111 => ⟨S16384x128, .f32⟩
  | 112 => ⟨S16384x128, .f32⟩
  | 113 => ⟨S16384x128, .f32⟩
  | 114 => ⟨S16384x128, .f32⟩
  | 115 => ⟨S16384x128, .f32⟩
  | 116 => ⟨S1x128, .f32⟩
  | 117 => ⟨S16384x128, .f32⟩
  | 118 => ⟨S16384x128, .f32⟩
  | 119 => ⟨S16384x1024, .f32⟩
  | 120 => ⟨S16384x512, .bf16⟩
  | 121 => ⟨S16384x512, .bf16⟩
  | 122 => ⟨S16384x512, .bf16⟩
  | 123 => ⟨S16384x256, .bf16⟩
  | 124 => ⟨S16384x256, .bf16⟩
  | 125 => ⟨S16384x256, .bf16⟩
  | 126 => ⟨S256x256, .f32⟩
  | 127 => ⟨S4x4x4096x256, .bf16⟩
  | _ => ⟨S16384x1024, .f32⟩

abbrev hbmTy0_1 (i : Nat) : BufTy := match i % 128 with
  | 0 => ⟨S4x4x4096x256, .bf16⟩
  | 1 => ⟨S4x4x4096x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .bf16⟩
  | .local _ .vmem, ⟨7, _⟩ => ⟨S1x1x1024, .f32⟩
  | .local _ .vmem, ⟨8, _⟩ => ⟨S1x2512x1024, .bf16⟩
  | .local _ .vmem, ⟨9, _⟩ => ⟨S1x256x1024, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x128x256, .bf16⟩
  | .local _ .vmem, ⟨15, _⟩ => ⟨S1x1x256, .f32⟩
  | .local _ .vmem, ⟨16, _⟩ => ⟨S1x1x256, .f32⟩
  | .local _ .vmem, ⟨17, _⟩ => ⟨S1x256x768, .bf16⟩
  | .local _ .vmem, ⟨18, _⟩ => ⟨S1x1x128, .f32⟩
  | .local _ .vmem, ⟨19, _⟩ => ⟨S1x128x1024, .bf16⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S512x1024, .f32⟩
  | .local _ .vmem, ⟨26, _⟩ => ⟨S512x1024, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x256, .bf16⟩
  | .local _ .vmem, ⟨34, _⟩ => ⟨S512x256, .bf16⟩
  | .local _ .vmem, ⟨35, _⟩ => ⟨S512x256, .bf16⟩
  | .local _ .vmem, ⟨36, _⟩ => ⟨S512x256, .bf16⟩
  | .local _ .vmem, ⟨37, _⟩ => ⟨S512x256, .bf16⟩
  | .local _ .vmem, ⟨38, _⟩ => ⟨S512x256, .bf16⟩
  | .local _ .vmem, ⟨39, _⟩ => ⟨S8x256, .f32⟩
  | .local _ .vmem, ⟨40, _⟩ => ⟨S8x256, .f32⟩
  | .local _ .vmem, ⟨41, _⟩ => ⟨S1x4x512x256, .bf16⟩
  | .local _ .vmem, ⟨42, _⟩ => ⟨S1x4x512x256, .bf16⟩
  | .local _ .vmem, ⟨43, _⟩ => ⟨S1x4x512x256, .bf16⟩
  | .local _ .vmem, ⟨44, _⟩ => ⟨S1x4x512x256, .bf16⟩
  | .local _ .vmem, ⟨45, _⟩ => ⟨S1x4x512x128, .bf16⟩
  | .local _ .vmem, ⟨46, _⟩ => ⟨S1x4x512x128, .bf16⟩
  | .local _ .vmem, ⟨47, _⟩ => ⟨S512x2560, .f32⟩
  | .local _ .vmem, ⟨48, _⟩ => ⟨S512x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_call0_v0 : Ref sig .tc := ⟨.hbm, 77, rfl⟩
abbrev main_call0_v1 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85_0 : Ref sig .tc := ⟨.hbm, 119, rfl⟩
abbrev main_v85_1 : Ref sig .tc := ⟨.hbm, 120, rfl⟩
abbrev main_v85_2 : Ref sig .tc := ⟨.hbm, 121, rfl⟩
abbrev main_v85_3 : Ref sig .tc := ⟨.hbm, 122, rfl⟩
abbrev main_v85_4 : Ref sig .tc := ⟨.hbm, 123, rfl⟩
abbrev main_v85_5 : Ref sig .tc := ⟨.hbm, 124, rfl⟩
abbrev main_v85_6 : Ref sig .tc := ⟨.hbm, 125, rfl⟩
abbrev main_v85_7 : Ref sig .tc := ⟨.hbm, 126, rfl⟩
abbrev main_v85_8 : Ref sig .tc := ⟨.hbm, 127, rfl⟩
abbrev main_v85_9 : Ref sig .tc := ⟨.hbm, 128, rfl⟩
abbrev main_v85_10 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_scratch0 : Ref sig .tc := ⟨.vmem, 47, rfl⟩
abbrev cc0_scratch1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44
abbrev cc0_sem30_0 : DmaSem sig := 45
abbrev cc0_sem30_1 : DmaSem sig := 46

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_25 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_26 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_27 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_28 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_29 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_30 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S8x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x4x512x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x4x512x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x4x512x128 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== Reference2Ideal.lean ====
abbrev S16384x1024 : Shape := ⟨2, ![16384, 1024]⟩
abbrev S16384x512 : Shape := ⟨2, ![16384, 512]⟩
abbrev S4x4096 : Shape := ⟨2, ![4, 4096]⟩
abbrev S4x1024 : Shape := ⟨2, ![4, 1024]⟩
abbrev S4x1024x2512 : Shape := ⟨3, ![4, 1024, 2512]⟩
abbrev S4x16x256 : Shape := ⟨3, ![4, 16, 256]⟩
abbrev S4x256 : Shape := ⟨2, ![4, 256]⟩
abbrev S4x256x768 : Shape := ⟨3, ![4, 256, 768]⟩
abbrev S4x128 : Shape := ⟨2, ![4, 128]⟩
abbrev S4x128x1024 : Shape := ⟨3, ![4, 128, 1024]⟩
abbrev S4x192 : Shape := ⟨2, ![4, 192]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2512 : Shape := ⟨3, ![1, 1024, 2512]⟩
abbrev S1024x2512 : Shape := ⟨2, ![1024, 2512]⟩
abbrev S16384x2512 : Shape := ⟨2, ![16384, 2512]⟩
abbrev S16384x128 : Shape := ⟨2, ![16384, 128]⟩
abbrev S1x128 : Shape := ⟨2, ![1, 128]⟩
abbrev S128 : Shape := ⟨1, ![128]⟩
abbrev S1x128x1024 : Shape := ⟨3, ![1, 128, 1024]⟩
abbrev S128x1024 : Shape := ⟨2, ![128, 1024]⟩
abbrev S4x4096x4x256 : Shape := ⟨4, ![4, 4096, 4, 256]⟩
abbrev S4x4096x4x128 : Shape := ⟨4, ![4, 4096, 4, 128]⟩
abbrev S4x4x4096x128 : Shape := ⟨4, ![4, 4, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x4096, .i32⟩
  | .hbm, ⟨4, _⟩ => ⟨S4x1024, .f32⟩
  | .hbm, ⟨5, _⟩ => ⟨S4x1024x2512, .f32⟩
  | .hbm, ⟨6, _⟩ => ⟨S4x16x256, .f32⟩
  | .hbm, ⟨7, _⟩ => ⟨S4x256, .f32⟩
  | .hbm, ⟨8, _⟩ => ⟨S4x256, .f32⟩
  | .hbm, ⟨9, _⟩ => ⟨S4x256x768, .f32⟩
  | .hbm, ⟨10, _⟩ => ⟨S4x128, .f32⟩
  | .hbm, ⟨11, _⟩ => ⟨S4x128x1024, .f32⟩
  | .hbm, ⟨12, _⟩ => ⟨S4x192, .f32⟩
  | .hbm, ⟨13, _⟩ => ⟨S4x192, .f32⟩
  | .hbm, ⟨14, _⟩ => ⟨S4x1024x1024, .f32⟩
  | .hbm, ⟨15, _⟩ => ⟨S16384x1024, .bf16⟩
  | .hbm, ⟨16, _⟩ => ⟨S16384x1024, .f32⟩
  | .hbm, ⟨17, _⟩ => ⟨S1x1024x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024x2512, .f32⟩
  | .hbm, ⟨40, _⟩ => ⟨S1024x2512, .f32⟩
  | .hbm, ⟨41, _⟩ => ⟨S16384x2512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S1x128, .f32⟩
  | .hbm, ⟨47, _⟩ => ⟨S128, .f32⟩
  | .hbm, ⟨48, _⟩ => ⟨S16384x128, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x128, .f32⟩
  | .hbm, ⟨60, _⟩ => ⟨S16384x128, .f32⟩
  | .hbm, ⟨61, _⟩ => ⟨S1x128, .f32⟩
  | .hbm, ⟨62, _⟩ => ⟨S16384x128, .f32⟩
  | .hbm, ⟨63, _⟩ => ⟨S16384x128, .f32⟩
  | .hbm, ⟨64, _⟩ => ⟨S1x128x1024, .f32⟩
  | .hbm, ⟨65, _⟩ => ⟨S128x1024, .f32⟩
  | .hbm, ⟨66, _⟩ => ⟨S16384x1024, .f32⟩
  | .hbm, ⟨67, _⟩ => ⟨S4x4096x4x256, .f32⟩
  | .hbm, ⟨68, _⟩ => ⟨S4x4096x4x128, .f32⟩
  | .hbm, ⟨69, _⟩ => ⟨S4x4x4096x128, .f32⟩
  | .hbm, ⟨70, _⟩ => ⟨S16384x512, .bf16⟩
  | .hbm, ⟨71, _⟩ => ⟨S16384x512, .f32⟩
  | .hbm, ⟨72, _⟩ => ⟨S16384x512, .f32⟩
  | .hbm, ⟨73, _⟩ => ⟨S_, .f32⟩
  | .hbm, ⟨74, _⟩ => ⟨S16384x512, .f32⟩
  | .hbm, ⟨75, _⟩ => ⟨S16384x512, .f32⟩
  | .hbm, ⟨76, _⟩ => ⟨S_, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .bf16⟩
  | .hbm, ⟨81, _⟩ => ⟨S16384x512, .f32⟩
  | .hbm, ⟨82, _⟩ => ⟨S16384x512, .f32⟩
  | .hbm, ⟨83, _⟩ => ⟨S_, .f32⟩
  | .hbm, ⟨84, _⟩ => ⟨S16384x512, .f32⟩
  | .hbm, ⟨85, _⟩ => ⟨S16384x512, .f32⟩
  | .hbm, ⟨86, _⟩ => ⟨S_, .f32⟩
  | .hbm, ⟨87, _⟩ => ⟨S16384x512, .f32⟩
  | .hbm, ⟨88, _⟩ => ⟨S16384x512, .f32⟩
  | .hbm, ⟨89, _⟩ => ⟨S16384x512, .f32⟩
  | .hbm, ⟨90, _⟩ => ⟨S16384x512, .bf16⟩
  | .hbm, ⟨91, _⟩ => ⟨S4x4x4096x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v50 : Ref sig .tc := ⟨.hbm, 79, rfl⟩
abbrev main_v51 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S4x1024x1024 : Shape := ⟨3, ![4, 1024, 1024]⟩
abbrev S1024x1024 : Shape := ⟨2, ![1024, 1024]⟩
abbrev S1024x512 : Shape := ⟨2, ![1024, 512]⟩
abbrev S1x1024x1024 : Shape := ⟨3, ![1, 1024, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x1024x1024, .f32⟩
  | .hbm, ⟨4, _⟩ => ⟨S4x1024x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S16384x512 : Shape := ⟨2, ![16384, 512]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x1024x1024, .f32⟩
  | .hbm, ⟨4, _⟩ => ⟨S16384x1024, .bf16⟩
  | .hbm, ⟨5, _⟩ => ⟨S16384x1024, .f32⟩
  | .hbm, ⟨6, _⟩ => ⟨S1x1024x1024, .f32⟩
  | .hbm, ⟨7, _⟩ => ⟨S1024x1024, .f32⟩
  | .hbm, ⟨8, _⟩ => ⟨S16384x1024, .f32⟩
  | .hbm, ⟨9, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16384x1024 : Shape := ⟨2, ![16384, 1024]⟩
abbrev S4x4096 : Shape := ⟨2, ![4, 4096]⟩
abbrev S4x1024 : Shape := ⟨2, ![4, 1024]⟩
abbrev S4x1024x2512 : Shape := ⟨3, ![4, 1024, 2512]⟩
abbrev S4x16x256 : Shape := ⟨3, ![4, 16, 256]⟩
abbrev S4x256 : Shape := ⟨2, ![4, 256]⟩
abbrev S4x256x768 : Shape := ⟨3, ![4, 256, 768]⟩
abbrev S4x128 : Shape := ⟨2, ![4, 128]⟩
abbrev S4x128x1024 : Shape := ⟨3, ![4, 128, 1024]⟩
abbrev S4x192 : Shape := ⟨2, ![4, 192]⟩
abbrev S4x1024x1024 : Shape := ⟨3, ![4, 1024, 1024]⟩
abbrev S2 : Shape := ⟨1, ![2]⟩
abbrev S4x2512x1024 : Shape := ⟨3, ![4, 2512, 1024]⟩
abbrev S_ : Shape := ⟨0, ![]⟩
abbrev S4x48x1024 : Shape := ⟨3, ![4, 48, 1024]⟩
abbrev S4x192x1024 : Shape := ⟨3, ![4, 192, 1024]⟩
abbrev S4x16x1024 : Shape := ⟨3, ![4, 16, 1024]⟩
abbrev S4x256x1024 : Shape := ⟨3, ![4, 256, 1024]⟩
abbrev S4x128x256 : Shape := ⟨3, ![4, 128, 256]⟩
abbrev S1 : Shape := ⟨1, ![1]⟩
abbrev S4x256x4x192 : Shape := ⟨4, ![4, 256, 4, 192]⟩
abbrev S4x256x4x128 : Shape := ⟨4, ![4, 256, 4, 128]⟩
abbrev S4x256x512 : Shape := ⟨3, ![4, 256, 512]⟩
abbrev S4x256x4x64 : Shape := ⟨4, ![4, 256, 4, 64]⟩
abbrev S4x256x256 : Shape := ⟨3, ![4, 256, 256]⟩
abbrev S4x128x4x256 : Shape := ⟨4, ![4, 128, 4, 256]⟩
abbrev S4x128x4x128 : Shape := ⟨4, ![4, 128, 4, 128]⟩
abbrev S4x128x512 : Shape := ⟨3, ![4, 128, 512]⟩
abbrev S4x1x64 : Shape := ⟨3, ![4, 1, 64]⟩
abbrev S4x1x1024 : Shape := ⟨3, ![4, 1, 1024]⟩
abbrev S4x1x256 : Shape := ⟨3, ![4, 1, 256]⟩
abbrev S4x1x128 : Shape := ⟨3, ![4, 1, 128]⟩
abbrev S4x64 : Shape := ⟨2, ![4, 64]⟩
abbrev S4 : Shape := ⟨1, ![4]⟩
abbrev S32 : Shape := ⟨1, ![32]⟩
abbrev S1x32 : Shape := ⟨2, ![1, 32]⟩
abbrev S4x32 : Shape := ⟨2, ![4, 32]⟩
abbrev S128 : Shape := ⟨1, ![128]⟩
abbrev S2x32 : Shape := ⟨2, ![2, 32]⟩
abbrev S64 : Shape := ⟨1, ![64]⟩
abbrev S1x64 : Shape := ⟨2, ![1, 64]⟩
abbrev S2x64 : Shape := ⟨2, ![2, 64]⟩
abbrev S16384x1 : Shape := ⟨2, ![16384, 1]⟩
abbrev S1x128 : Shape := ⟨2, ![1, 128]⟩
abbrev S16384x128 : Shape := ⟨2, ![16384, 128]⟩
abbrev S16384x512 : Shape := ⟨2, ![16384, 512]⟩
abbrev S16384x256 : Shape := ⟨2, ![16384, 256]⟩
abbrev S256x256 : Shape := ⟨2, ![256, 256]⟩
abbrev S4x4x4096x256 : Shape := ⟨4, ![4, 4, 4096, 256]⟩
abbrev S4x4x4096x128 : Shape := ⟨4, ![4, 4, 4096, 128]⟩
abbrev S512x1024 : Shape := ⟨2, ![512, 1024]⟩
abbrev S1x1x1024 : Shape := ⟨3, ![1, 1, 1024]⟩
abbrev S1x2512x1024 : Shape := ⟨3, ![1, 2512, 1024]⟩
abbrev S1x256x1024 : Shape := ⟨3, ![1, 256, 1024]⟩
abbrev S512x128 : Shape := ⟨2, ![512, 128]⟩
abbrev S1x128x256 : Shape := ⟨3, ![1, 128, 256]⟩
abbrev S1x1x256 : Shape := ⟨3, ![1, 1, 256]⟩
abbrev S1x256x768 : Shape := ⟨3, ![1, 256, 768]⟩
abbrev S1x1x128 : Shape := ⟨3, ![1, 1, 128]⟩
abbrev S1x128x1024 : Shape := ⟨3, ![1, 128, 1024]⟩
abbrev S512x512 : Shape := ⟨2, ![512, 512]⟩
abbrev S512x256 : Shape := ⟨2, ![512, 256]⟩
abbrev S8x256 : Shape := ⟨2, ![8, 256]⟩
abbrev S1x4x512x256 : Shape := ⟨4, ![1, 4, 512, 256]⟩
abbrev S1x4x512x128 : Shape := ⟨4, ![1, 4, 512, 128]⟩
abbrev S512x2560 : Shape := ⟨2, ![512, 2560]⟩
abbrev S1x1024 : Shape := ⟨2, ![1, 1024]⟩
abbrev S512 : Shape := ⟨1, ![512]⟩
abbrev S512x1 : Shape := ⟨2, ![512, 1]⟩
abbrev S128x256 : Shape := ⟨2, ![128, 256]⟩
abbrev S1x256 : Shape := ⟨2, ![1, 256]⟩
abbrev S256x768 : Shape := ⟨2, ![256, 768]⟩
abbrev S512x768 : Shape := ⟨2, ![512, 768]⟩
abbrev S128x1024 : Shape := ⟨2, ![128, 1024]⟩
abbrev S256x1024 : Shape := ⟨2, ![256, 1024]⟩
abbrev S1x1x512x128 : Shape := ⟨4, ![1, 1, 512, 128]⟩

abbrev nBuf : Space → Nat
  | .hbm => 127
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S4x4096, .i32⟩
  | .hbm, ⟨2, _⟩ => ⟨S4x1024, .f32⟩
  | .hbm, ⟨3, _⟩ => ⟨S4x1024x2512, .f32⟩
  | .hbm, ⟨4, _⟩ => ⟨S4x16x256, .f32⟩
  | .hbm, ⟨5, _⟩ => ⟨S4x256, .f32⟩
  | .hbm, ⟨6, _⟩ => ⟨S4x256, .f32⟩
  | .hbm, ⟨7, _⟩ => ⟨S4x256x768, .f32⟩
  | .hbm, ⟨8, _⟩ => ⟨S4x128, .f32⟩
  | .hbm, ⟨9, _⟩ => ⟨S4x128x1024, .f32⟩
  | .hbm, ⟨10, _⟩ => ⟨S4x192, .f32⟩
  | .hbm, ⟨11, _⟩ => ⟨S4x192, .f32⟩
  | .hbm, ⟨12, _⟩ => ⟨S4x1024x1024, .f32⟩
  | .hbm, ⟨13, _⟩ => ⟨S2, .f32⟩
  | .hbm, ⟨14, _⟩ => ⟨S4x2512x1024, .f32⟩
  | .hbm, ⟨15, _⟩ => ⟨S4x2512x1024, .bf16⟩
  | .hbm, ⟨16, _⟩ => ⟨S_, .bf16⟩
  | .hbm, ⟨17, _⟩ => ⟨S4x48x1024, .bf16⟩
  | .hbm, ⟨18, _⟩ => ⟨S4x192x1024, .bf16⟩
  | .hbm, ⟨19, _⟩ => ⟨S4x16x1024, .bf16⟩
  | .hbm, ⟨20, _⟩ => ⟨S4x256x1024, .bf16⟩
  | .hbm, ⟨21, _⟩ => ⟨S_, .f32⟩
  | .hbm, ⟨22, _⟩ => ⟨S4x128x256, .f32⟩
  | .hbm, ⟨23, _⟩ => ⟨S_, .i32⟩
  | .hbm, ⟨24, _⟩ => ⟨S1, .i32⟩
  | .hbm, ⟨25, _⟩ => ⟨S4x128x256, .f32⟩
  | .hbm, ⟨26, _⟩ => ⟨S4x128x256, .bf16⟩
  | .hbm, ⟨27, _⟩ => ⟨S4x256x4x192, .f32⟩
  | .hbm, ⟨28, _⟩ => ⟨S4x256x4x128, .f32⟩
  | .hbm, ⟨29, _⟩ => ⟨S4x256x512, .f32⟩
  | .hbm, ⟨30, _⟩ => ⟨S4x256x4x64, .f32⟩
  | .hbm, ⟨31, _⟩ => ⟨S4x256x256, .f32⟩
  | .hbm, ⟨32, _⟩ => ⟨S4x256x768, .f32⟩
  | .hbm, ⟨33, _⟩ => ⟨S4x256x768, .bf16⟩
  | .hbm, ⟨34, _⟩ => ⟨S4x128x4x256, .f32⟩
  | .hbm, ⟨35, _⟩ => ⟨S4x128x4x128, .f32⟩
  | .hbm, ⟨36, _⟩ => ⟨S4x128x512, .f32⟩
  | .hbm, ⟨37, _⟩ => ⟨S4x128x4x128, .f32⟩
  | .hbm, ⟨38, _⟩ => ⟨S4x128x512, .f32⟩
  | .hbm, ⟨39, _⟩ => ⟨S4x128x1024, .f32⟩
  | .hbm, ⟨40, _⟩ => ⟨S4x128x1024, .bf16⟩
  | .hbm, ⟨41, _⟩ => ⟨S_, .f32⟩
  | .hbm, ⟨42, _⟩ => ⟨S4x1x64, .f32⟩
  | .hbm, ⟨43, _⟩ => ⟨S4x1x1024, .f32⟩
  | .hbm, ⟨44, _⟩ => ⟨S4x1x256, .f32⟩
  | .hbm, ⟨45, _⟩ => ⟨S4x1x256, .f32⟩
  | .hbm, ⟨46, _⟩ => ⟨S4x1x128, .f32⟩
  | .hbm, ⟨47, _⟩ => ⟨S4x128, .f32⟩
  | .hbm, ⟨48, _⟩ => ⟨S4x1x128, .f32⟩
  | .hbm, ⟨49, _⟩ => ⟨S4x64, .f32⟩
  | .hbm, ⟨50, _⟩ => ⟨S4x1x64, .f32⟩
  | .hbm, ⟨51, _⟩ => ⟨S4x1x128, .f32⟩
  | .hbm, ⟨52, _⟩ => ⟨S4x128, .f32⟩
  | .hbm, ⟨53, _⟩ => ⟨S4x1x128, .f32⟩
  | .hbm, ⟨54, _⟩ => ⟨S4x64, .f32⟩
  | .hbm, ⟨55, _⟩ => ⟨S4x1x64, .f32⟩
  | .hbm, ⟨56, _⟩ => ⟨S4x1x128, .f32⟩
  | .hbm, ⟨57, _⟩ => ⟨S4x1024x1024, .bf16⟩
  | .hbm, ⟨58, _⟩ => ⟨S4x192, .f32⟩
  | .hbm, ⟨59, _⟩ => ⟨S_, .f32⟩
  | .hbm, ⟨60, _⟩ => ⟨S4, .f32⟩
  | .hbm, ⟨61, _⟩ => ⟨S_, .f32⟩
  | .hbm, ⟨62, _⟩ => ⟨S4, .f32⟩
  | .hbm, ⟨63, _⟩ => ⟨S4, .f32⟩
  | .hbm, ⟨64, _⟩ => ⟨S4x192, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .i1⟩
  | .hbm, ⟨71, _⟩ => ⟨S_, .f32⟩
  | .hbm, ⟨72, _⟩ => ⟨S4x1x128, .f32⟩
  | .hbm, ⟨73, _⟩ => ⟨S4, .f32⟩
  | .hbm, ⟨74, _⟩ => ⟨S_, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S4x1x128, .f32⟩
  | .hbm, ⟨84, _⟩ => ⟨S32, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S32, .f32⟩
  | .hbm, ⟨92, _⟩ => ⟨S_, .f32⟩
  | .hbm, ⟨93, _⟩ => ⟨S32, .f32⟩
  | .hbm, ⟨94, _⟩ => ⟨S32, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S1x32, .f32⟩
  | .hbm, ⟨99, _⟩ => ⟨S4x32, .f32⟩
  | .hbm, ⟨100, _⟩ => ⟨S128, .f32⟩
  | .hbm, ⟨101, _⟩ => ⟨S2x32, .f32⟩
  | .hbm, ⟨102, _⟩ => ⟨S64, .f32⟩
  | .hbm, ⟨103, _⟩ => ⟨S1x64, .f32⟩
  | .hbm, ⟨104, _⟩ => ⟨S2x64, .f32⟩
  | .hbm, ⟨105, _⟩ => ⟨S128, .f32⟩
  | .hbm, ⟨106, _⟩ => ⟨S4x4096, .f32⟩
  | .hbm, ⟨107, _⟩ => ⟨S16384x1, .f32⟩
  | .hbm, ⟨108, _⟩ => ⟨S1x128, .f32⟩
  | .hbm, ⟨109, _⟩ => ⟨S16384x128, .f32⟩
  | .hbm, ⟨110, _⟩ => ⟨S16384x128, .f32⟩
  | .hbm, ⟨111, _⟩ => ⟨S16384x128, .f32⟩
  | .hbm, ⟨112, _⟩ => ⟨S16384x128, .f32⟩
  | .hbm, ⟨113, _⟩ => ⟨S16384x128, .f32⟩
  | .hbm, ⟨114, _⟩ => ⟨S1x128, .f32⟩
  | .hbm, ⟨115, _⟩ => ⟨S16384x128, .f32⟩
  | .hbm, ⟨116, _⟩ => ⟨S16384x128, .f32⟩
  | .hbm, ⟨117, _⟩ => ⟨S16384x512, .bf16⟩
  | .hbm, ⟨118, _⟩ => ⟨S16384x512, .bf16⟩
  | .hbm, ⟨119, _⟩ => ⟨S16384x512, .bf16⟩
  | .hbm, ⟨120, _⟩ => ⟨S16384x256, .bf16⟩
  | .hbm, ⟨121, _⟩ => ⟨S16384x256, .bf16⟩
  | .hbm, ⟨122, _⟩ => ⟨S16384x256, .bf16⟩
  | .hbm, ⟨123, _⟩ => ⟨S256x256, .f32⟩
  | .hbm, ⟨124, _⟩ => ⟨S4x4x4096x256, .bf16⟩
  | .hbm, ⟨125, _⟩ => ⟨S4x4x4096x256, .bf16⟩
  | .hbm, ⟨126, _⟩ => ⟨S4x4x4096x128, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x2512x1024, .bf16⟩
  | .local _ .vmem, ⟨4, _⟩ => ⟨S1x256x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x128x256, .bf16⟩
  | .local _ .vmem, ⟨10, _⟩ => ⟨S1x1x256, .f32⟩
  | .local _ .vmem, ⟨11, _⟩ => ⟨S1x1x256, .f32⟩
  | .local _ .vmem, ⟨12, _⟩ => ⟨S1x256x768, .bf16⟩
  | .local _ .vmem, ⟨13, _⟩ => ⟨S1x1x128, .f32⟩
  | .local _ .vmem, ⟨14, _⟩ => ⟨S1x128x1024, .bf16⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | .local _ .vmem, ⟨32, _⟩ => ⟨S8x256, .f32⟩
  | .local _ .vmem, ⟨33, _⟩ => ⟨S8x256, .f32⟩
  | .local _ .vmem, ⟨34, _⟩ => ⟨S1x4x512x256, .bf16⟩
  | .local _ .vmem, ⟨35, _⟩ => ⟨S1x4x512x256, .bf16⟩
  | .local _ .vmem, ⟨36, _⟩ => ⟨S1x4x512x256, .bf16⟩
  | .local _ .vmem, ⟨37, _⟩ => ⟨S1x4x512x256, .bf16⟩
  | .local _ .vmem, ⟨38, _⟩ => ⟨S1x4x512x128, .bf16⟩
  | .local _ .vmem, ⟨39, _⟩ => ⟨S1x4x512x128, .bf16⟩
  | .local _ .vmem, ⟨40, _⟩ => ⟨S512x2560, .f32⟩
  | .local _ .vmem, ⟨41, _⟩ => ⟨S512x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_call0_v0 : Ref sig .tc := ⟨.hbm, 75, rfl⟩
abbrev main_call0_v1 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85_0 : Ref sig .tc := ⟨.hbm, 117, rfl⟩
abbrev main_v85_1 : Ref sig .tc := ⟨.hbm, 118, rfl⟩
abbrev main_v85_2 : Ref sig .tc := ⟨.hbm, 119, rfl⟩
abbrev main_v85_3 : Ref sig .tc := ⟨.hbm, 120, rfl⟩
abbrev main_v85_4 : Ref sig .tc := ⟨.hbm, 121, rfl⟩
abbrev main_v85_5 : Ref sig .tc := ⟨.hbm, 122, rfl⟩
abbrev main_v85_6 : Ref sig .tc := ⟨.hbm, 123, rfl⟩
abbrev main_v85_7 : Ref sig .tc := ⟨.hbm, 124, rfl⟩
abbrev main_v85_8 : Ref sig .tc := ⟨.hbm, 125, rfl⟩
abbrev main_v85_9 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_24 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_25 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_26 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x4x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x4x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x4x512x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference4Ideal.lean ====
abbrev S16384x1024 : Shape := ⟨2, ![16384, 1024]⟩
abbrev S4x4096 : Shape := ⟨2, ![4, 4096]⟩
abbrev S4x1024 : Shape := ⟨2, ![4, 1024]⟩
abbrev S4x1024x2512 : Shape := ⟨3, ![4, 1024, 2512]⟩
abbrev S4x16x256 : Shape := ⟨3, ![4, 16, 256]⟩
abbrev S4x256 : Shape := ⟨2, ![4, 256]⟩
abbrev S4x256x768 : Shape := ⟨3, ![4, 256, 768]⟩
abbrev S4x128 : Shape := ⟨2, ![4, 128]⟩
abbrev S4x128x1024 : Shape := ⟨3, ![4, 128, 1024]⟩
abbrev S4x192 : Shape := ⟨2, ![4, 192]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2512 : Shape := ⟨3, ![1, 1024, 2512]⟩
abbrev S1024x2512 : Shape := ⟨2, ![1024, 2512]⟩
abbrev S16384x2512 : Shape := ⟨2, ![16384, 2512]⟩
abbrev S16384x512 : Shape := ⟨2, ![16384, 512]⟩
abbrev S16384x128 : Shape := ⟨2, ![16384, 128]⟩
abbrev S1x128 : Shape := ⟨2, ![1, 128]⟩
abbrev S128 : Shape := ⟨1, ![128]⟩
abbrev S1x128x1024 : Shape := ⟨3, ![1, 128, 1024]⟩
abbrev S128x1024 : Shape := ⟨2, ![128, 1024]⟩
abbrev S4x4096x4x256 : Shape := ⟨4, ![4, 4096, 4, 256]⟩
abbrev S4x4096x4x128 : Shape := ⟨4, ![4, 4096, 4, 128]⟩
abbrev S4x4x4096x128 : Shape := ⟨4, ![4, 4, 4096, 128]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096, .i32⟩
  | .hbm, ⟨2, _⟩ => ⟨S4x1024, .f32⟩
  | .hbm, ⟨3, _⟩ => ⟨S4x1024x2512, .f32⟩
  | .hbm, ⟨4, _⟩ => ⟨S4x16x256, .f32⟩
  | .hbm, ⟨5, _⟩ => ⟨S4x256, .f32⟩
  | .hbm, ⟨6, _⟩ => ⟨S4x256, .f32⟩
  | .hbm, ⟨7, _⟩ => ⟨S4x256x768, .f32⟩
  | .hbm, ⟨8, _⟩ => ⟨S4x128, .f32⟩
  | .hbm, ⟨9, _⟩ => ⟨S4x128x1024, .f32⟩
  | .hbm, ⟨10, _⟩ => ⟨S4x192, .f32⟩
  | .hbm, ⟨11, _⟩ => ⟨S4x192, .f32⟩
  | .hbm, ⟨12, _⟩ => ⟨S4x1024x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024x2512, .f32⟩
  | .hbm, ⟨32, _⟩ => ⟨S1024x2512, .f32⟩
  | .hbm, ⟨33, _⟩ => ⟨S16384x2512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x128, .f32⟩
  | .hbm, ⟨38, _⟩ => ⟨S1x128, .f32⟩
  | .hbm, ⟨39, _⟩ => ⟨S128, .f32⟩
  | .hbm, ⟨40, _⟩ => ⟨S16384x128, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x128, .f32⟩
  | .hbm, ⟨52, _⟩ => ⟨S16384x128, .f32⟩
  | .hbm, ⟨53, _⟩ => ⟨S1x128, .f32⟩
  | .hbm, ⟨54, _⟩ => ⟨S16384x128, .f32⟩
  | .hbm, ⟨55, _⟩ => ⟨S16384x128, .f32⟩
  | .hbm, ⟨56, _⟩ => ⟨S1x128x1024, .f32⟩
  | .hbm, ⟨57, _⟩ => ⟨S128x1024, .f32⟩
  | .hbm, ⟨58, _⟩ => ⟨S16384x1024, .f32⟩
  | .hbm, ⟨59, _⟩ => ⟨S4x4096x4x256, .f32⟩
  | .hbm, ⟨60, _⟩ => ⟨S4x4096x4x128, .f32⟩
  | .hbm, ⟨61, _⟩ => ⟨S4x4x4096x128, .f32⟩
  | .hbm, ⟨62, _⟩ => ⟨S16384x512, .bf16⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .bf16⟩
  | .hbm, ⟨73, _⟩ => ⟨S16384x512, .f32⟩
  | .hbm, ⟨74, _⟩ => ⟨S16384x512, .f32⟩
  | .hbm, ⟨75, _⟩ => ⟨S_, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .bf16⟩
  | .hbm, ⟨83, _⟩ => ⟨S4x4x4096x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩

abbrev nD : Nat := 1
abbrev τ : Topo := Topo.v7x

variable {F : FTy → Type} [FloatOps F]
-- ==== Proof.Tile.lean ====
/- One tile of the attention call, read at an index: the weighted sums over the keys of one query
   tile, as the kernel accumulates them, over variable tiles. -/
module

public import proofs.«01_k».proof.Defs
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Attn

open Idealize.ShloMosaic Idealize.ShloMosaic.TcCoe Idealize.SL.Sem
open Cert.KernelIdeal Cert.KernelIdeal.Gen

/-- A tile of queries or of keys, and a tile of values, as they are loaded. -/
abbrev QTile := Vec Ideal S1x1x512x256 .bf16
abbrev VTile := Vec Ideal S1x1x512x128 .bf16

/-- The value tile with the column of ones (and 127 columns of zeros) beside it. -/
def ext (v : VTile) : FVec Ideal S512x256 .bf16 :=
  concatenate S512x256 1 [⟨S512x128, (shapeCast S512x128 v shapeCasts_S1x1x512x128_S512x128 : FVec Ideal S512x128 .bf16)⟩,
    ⟨S512x128, k0_pay2 (F := Ideal)⟩] concatenates_S512x128_S512x128_S512x256_d1

/-- A tile with its unit axes dropped. -/
def flat (q : QTile) : FVec Ideal S512x256 .bf16 := shapeCast S512x256 q shapeCasts_S1x1x512x256_S512x256

/-- What a key tile entirely before the query tile adds to the sums. -/
def off (q k : QTile) (v : VTile) : FVec Ideal S512x256 .f32 :=
  matmul dot_S512x512_S512x256_S512x256_1_0_0_1_n_n none
    (truncf .bf16 (exp2 (matmul dot_S512x256_S512x256_S512x512_1_1_0_0_n_n none (flat q) (flat k)
      (constant S512x512 .f32 0x00000000#32))) bitsLt_bf16_f32) (ext v) (constant S512x256 .f32 0x00000000#32)

/-- The upper half of the query tile against its own keys. -/
def diagA (q k : QTile) (v : VTile) : FVec Ideal S256x256 .f32 :=
  matmul dot_S256x256_S256x256_S256x256_1_0_0_1_n_n none
    (truncf .bf16 (select k0_pay3 (exp2 (matmul dot_S256x256_S256x256_S256x256_1_1_0_0_n_n none
      (extractStridedSlice S256x256 ![0, 0] (flat q) slices_S512x256_o0_0_S256x256 : FVec Ideal S256x256 .bf16)
      (extractStridedSlice S256x256 ![0, 0] (flat k) slices_S512x256_o0_0_S256x256 : FVec Ideal S256x256 .bf16)
      (constant S256x256 .f32 0x00000000#32)))
      (broadcast S256x256 (Scalar.ofBits .f32 0x00000000#32 : Ideal .f32))) bitsLt_bf16_f32)
    (extractStridedSlice S256x256 ![0, 0] (ext v) slices_S512x256_o0_0_S256x256 : FVec Ideal S256x256 .bf16)
    (constant S256x256 .f32 0x00000000#32)

/-- The lower half of the query tile against its own keys. -/
def diagB (q k : QTile) (v : VTile) : FVec Ideal S256x256 .f32 :=
  matmul dot_S256x512_S512x256_S256x256_1_0_0_1_n_n none
    (truncf .bf16 (select k0_pay4 (exp2 (matmul dot_S256x256_S512x256_S256x512_1_1_0_0_n_n none
      (extractStridedSlice S256x256 ![256, 0] (flat q) slices_S512x256_o256_0_S256x256 : FVec Ideal S256x256 .bf16)
      (flat k) (constant S256x512 .f32 0x00000000#32)))
      (broadcast S256x512 (Scalar.ofBits .f32 0x00000000#32 : Ideal .f32))) bitsLt_bf16_f32)
    (ext v) (constant S256x256 .f32 0x00000000#32)

/-- What the query tile's own keys put into the sums. -/
def diag (q k : QTile) (v : VTile) : FVec Ideal S512x256 .f32 :=
  concatenate S512x256 0 [⟨S256x256, diagA q k v⟩, ⟨S256x256, diagB q k v⟩] concatenates_S256x256_S256x256_S512x256_d0

/-- The sums of query tile `i`: its own keys first, then the key tiles `0, 1, …` before it, `n` of them. -/
def sums (q : QTile) (k : ℕ → QTile) (v : ℕ → VTile) (i : ℕ) : ℕ → FVec Ideal S512x256 .f32
  | 0 => diag q (k i) (v i)
  | n + 1 => addf (sums q k v i n) (off q (k n) (v n))

/-- The tile that is stored: the sums divided by the sum of the weights, times the gate. -/
def fin (a : FVec Ideal S512x256 .f32) (g : Vec Ideal S512x128 .bf16) : FVec Ideal S512x128 .bf16 :=
  truncf .bf16 (mulf (mulf
    (extractStridedSlice S512x128 ![0, 0] a slices_S512x256_o0_0_S512x128 : FVec Ideal S512x128 .f32)
    (broadcastTo S512x128 (divf (broadcast S512x1 (Scalar.ofBits .f32 0x3F800000#32 : Ideal .f32))
      (extractStridedSlice S512x1 ![0, 128] a slices_S512x256_o0_128_S512x1 : FVec Ideal S512x1 .f32)) broadcasts_S512x1_S512x128))
    (extf .f32 (g : FVec Ideal S512x128 .bf16) bitsLt_bf16_f32)) bitsLt_bf16_f32

/-- The score of query `r` and key `n` of two tiles. -/
def score (q k : QTile) (r n : Fin 512) : EReal := ∑ d : Fin 256, q (ix4 0 0 r d) * k (ix4 0 0 n d)

theorem off_at (q k : QTile) (v : VTile) (r : Fin 512) (c : Fin 256) :
    off q k v (ix2 r c) = ∑ n : Fin 512, Ideal.exp2 (score q k r n) * ext v (ix2 n c) := by
  pointwise [off, flat, score]
  rfl

theorem ext_value (v : VTile) (n : Fin 512) (c : Fin 128) :
    ext v (ix2 n ⟨c, by omega⟩) = v (ix4 0 0 n c) := by
  pointwise [ext]

theorem ext_one (v : VTile) (n : Fin 512) : ext v (ix2 n (128 : Fin 256)) = (1 : EReal) := by
  pointwise [ext, k0_pay2]

/-- A select on the comparison of two small index words. -/
theorem sel_le (a b : ℕ) (x y : EReal) (ha : a < 2 ^ 31) (hb : b < 2 ^ 31) :
    Scalar.select (IntOp.cmpi CmpIPredicate.sle (BitVec.ofNat 32 a) (BitVec.ofNat 32 b)) x y = if a ≤ b then x else y := by
  simp (disch := omega) only [hlo_ix]

theorem ite_mul_zero' (p : Prop) [Decidable p] (x y : EReal) : (if p then x * y else 0) = (if p then x else 0) * y := by
  split
  · rfl
  · rw [zero_mul]

theorem diag_at (q k : QTile) (v : VTile) (r : Fin 512) (c : Fin 256) :
    diag q k v (ix2 r c) = ∑ n : Fin 512, (if (n : ℕ) ≤ r then Ideal.exp2 (score q k r n) else 0) * ext v (ix2 n c) := by
  pointwise [diag, diagA, diagB, flat, score, k0_pay3, k0_pay4]
  split
  · rename_i h
    rw [Fin.sum_univ_two_halves 256 256 rfl]
    refine Eq.trans ?_ (add_zero _).symm |>.trans (congrArg₂ (· + ·) rfl (Finset.sum_eq_zero fun n _ => ?_).symm)
    · refine Finset.sum_congr rfl fun n _ => ?_
      rw [sel_le _ _ _ _ (by omega) (by omega)]
      exact ite_mul_zero' _ _ _
    · rw [if_neg (show ¬ 256 + (n : ℕ) ≤ (r : ℕ) by omega), zero_mul]
  · rename_i h
    refine Finset.sum_congr rfl fun n _ => ?_
    have hr : 256 + ((r : ℕ) - 256) = r := by omega
    rw [show IntOp.addi (BitVec.ofNat 32 ((r : ℕ) - 256)) 256#32 = BitVec.ofNat 32 r from by
      rw [show (256#32) = BitVec.ofNat 32 256 from rfl]; unfold IntOp.addi; rw [← BitVec.ofNat_add]; congr 1; omega,
      sel_le _ _ _ _ (by omega) (by omega)]
    simp only [hr]
    exact ite_mul_zero' _ _ _

theorem fin_at (a : FVec Ideal S512x256 .f32) (g : Vec Ideal S512x128 .bf16) (r : Fin 512) (c : Fin 128) :
    fin a g (ix2 r c) = a (ix2 r ⟨c, by omega⟩) * Ideal.div 1 (a (ix2 r (128 : Fin 256))) * g (ix2 r c) := by
  pointwise [fin]

end Cert.Attn

end
-- ==== Proof.Block.lean ====
/- One grid point of the attention call: the sixteen stored tiles are one function of the block's
   index, the attention of two heads over all keys up to the query's own position. -/
module

public import proofs.«01_k».proof.Proof.Tile

@[expose] public section

set_option maxRecDepth 16384

noncomputable section

namespace Cert.Attn

open Idealize.ShloMosaic Idealize.ShloMosaic.TcCoe Idealize.SL.Sem
open Cert.KernelIdeal Cert.KernelIdeal.Gen

/-- A block of queries or keys, a block of values, a block of gates or of results. -/
abbrev QBlk := Vec Ideal S1x2x4096x256 .bf16
abbrev VBlk := Vec Ideal S1x2x4096x128 .bf16
abbrev OBlk := Vec Ideal S4096x256 .bf16

/-- The weight of key `n` for query `r` in head `h` of a block: a power of two, zero after the query. -/
def wt (x0 x1 : QBlk) (h : Fin 2) (r n : Fin 4096) : EReal :=
  if (n : ℕ) ≤ r then Ideal.exp2 (∑ d : Fin 256, x0 (ix4 0 h r d) * x1 (ix4 0 h n d)) else 0

/-- What the call computes of its blocks, at row `r` and column `c` of head `h`. -/
def blockAt (x0 x1 : QBlk) (x2 : VBlk) (x3 : OBlk) (h : Fin 2) (r : Fin 4096) (c : Fin 128) : EReal :=
  (∑ n, wt x0 x1 h r n * x2 (ix4 0 h n c)) * Ideal.div 1 (∑ n, wt x0 x1 h r n)
    * x3 (ix2 r ⟨128 * (h : ℕ) + c, by omega⟩)

/-- Tile `j` of head `h` of a block, as it is loaded. -/
def ldq (x : QBlk) (h : Fin 2) (j : ℕ) : QTile :=
  View.ld x (Rect.unit (s := S1x2x4096x256) ![0, h, 512 * (j % 8), 0] S1x1x512x256.size (by
    intro a; fin_cases a <;> simp <;> omega))

def ldv (x : VBlk) (h : Fin 2) (j : ℕ) : VTile :=
  View.ld x (Rect.unit (s := S1x2x4096x128) ![0, h, 512 * (j % 8), 0] S1x1x512x128.size (by
    intro a; fin_cases a <;> simp <;> omega))

def ldo (x : OBlk) (h : Fin 2) (j : ℕ) : Vec Ideal S512x128 .bf16 :=
  View.ld x (Rect.unit (s := S4096x256) ![512 * (j % 8), 128 * h] S512x128.size (by
    intro a; fin_cases a <;> simp <;> omega))

theorem ldq_at (x : QBlk) (h : Fin 2) (j : ℕ) (hj : j < 8) (r : Fin 512) (d : Fin 256) :
    ldq x h j (ix4 0 0 r d) = x (ix4 0 h ⟨512 * j + r, by omega⟩ d) := by
  have hm : j % 8 = j := Nat.mod_eq_of_lt hj
  pointwise [ldq]
  simp only [hm]

theorem ldv_at (x : VBlk) (h : Fin 2) (j : ℕ) (hj : j < 8) (r : Fin 512) (d : Fin 128) :
    ldv x h j (ix4 0 0 r d) = x (ix4 0 h ⟨512 * j + r, by omega⟩ d) := by
  have hm : j % 8 = j := Nat.mod_eq_of_lt hj
  pointwise [ldv]
  simp only [hm]

theorem ldo_at (x : OBlk) (h : Fin 2) (j : ℕ) (hj : j < 8) (r : Fin 512) (d : Fin 128) :
    ldo x h j (ix2 r d) = x (ix2 ⟨512 * j + r, by omega⟩ ⟨128 * (h : ℕ) + d, by omega⟩) := by
  have hm : j % 8 = j := Nat.mod_eq_of_lt hj
  pointwise [ldo]
  simp only [hm]

/-- The sums of a query tile: its own keys and the `n` tiles counted so far. -/
theorem sums_at (q : QTile) (k : ℕ → QTile) (v : ℕ → VTile) (i n : ℕ) (r : Fin 512) (c : Fin 256) :
    sums q k v i n (ix2 r c) = diag q (k i) (v i) (ix2 r c) + ∑ j ∈ Finset.range n, off q (k j) (v j) (ix2 r c) := by
  induction n with
  | zero => rw [Finset.range_zero, Finset.sum_empty, add_zero]; rfl
  | succ n ih =>
    rw [Finset.sum_range_succ, ← add_assoc, ← ih]
    rfl

/-- A sum over all keys that stops with tile `i`, tile by tile. -/
theorem sum_tiles (i : ℕ) (hi : i < 8) (f : Fin 4096 → EReal) (g : ℕ → EReal)
    (hg : ∀ j (hj : j < 8), j ≤ i → g j = ∑ t : Fin 512, f ⟨512 * j + t, by omega⟩)
    (hz : ∀ n : Fin 4096, 512 * (i + 1) ≤ (n : ℕ) → f n = 0) :
    g i + ∑ j ∈ Finset.range i, g j = ∑ n, f n := by
  have key : ∑ n, f n = ∑ j : Fin 8, (if (j : ℕ) ≤ i then g j else 0) := by
    rw [Fin.sum_univ_tiles 8 512 rfl f]
    refine Finset.sum_congr rfl fun j _ => ?_
    split
    · rename_i h
      rw [hg j j.isLt h]
      exact Finset.sum_congr rfl fun t _ => congrArg f (Fin.ext (by simp only []; omega))
    · rename_i h
      refine Finset.sum_eq_zero fun t _ => hz _ ?_
      simp only []
      omega
  rw [key, Fin.sum_univ_eq_sum_range (fun j => if j ≤ i then g j else 0) 8,
    ← Finset.sum_subset (Finset.range_subset_range.2 (show i + 1 ≤ 8 by omega)) (fun j _ h => by
      rw [if_neg]; simp only [Finset.mem_range] at h; omega),
    Finset.sum_range_succ, if_pos (le_refl i), add_comm]
  refine congrArg₂ (· + ·) (Finset.sum_congr rfl fun j h => ?_) rfl
  rw [if_pos]; simp only [Finset.mem_range] at h; omega

/-- The sums of query tile `i` of head `h`, over all keys. -/
theorem tile_sums (x0 x1 : QBlk) (x2 : VBlk) (h : Fin 2) (i : ℕ) (hi : i < 8) (r : Fin 512) (c : Fin 256)
    (e : Fin 4096 → EReal)
    (he : ∀ j (hj : j < 8) (n : Fin 512), ext (ldv x2 h j) (ix2 n c) = e ⟨512 * j + n, by omega⟩) :
    sums (ldq x0 h i) (ldq x1 h) (ldv x2 h) i i (ix2 r c) = ∑ n, wt x0 x1 h ⟨512 * i + r, by omega⟩ n * e n := by
  rw [sums_at]
  have hs : ∀ j (hj : j < 8) (n : Fin 512), score (ldq x0 h i) (ldq x1 h j) r n
      = ∑ d : Fin 256, x0 (ix4 0 h ⟨512 * i + r, by omega⟩ d) * x1 (ix4 0 h ⟨512 * j + n, by omega⟩ d) := by
    intro j hj n
    unfold score
    refine Finset.sum_congr rfl fun d _ => ?_
    rw [ldq_at x0 h i hi, ldq_at x1 h j hj]
  refine Eq.trans ?_ (sum_tiles i hi (fun n => wt x0 x1 h ⟨512 * i + r, by omega⟩ n * e n)
    (fun j => if j = i then diag (ldq x0 h i) (ldq x1 h i) (ldv x2 h i) (ix2 r c)
      else off (ldq x0 h i) (ldq x1 h j) (ldv x2 h j) (ix2 r c)) (fun j hj hji => ?_) (fun n hn => ?_))
  · rw [if_pos rfl]
    refine congrArg₂ (· + ·) rfl (Finset.sum_congr rfl fun j hj => ?_)
    rw [if_neg]; simp only [Finset.mem_range] at hj; omega
  · split
    · rename_i hjj
      subst hjj
      rw [diag_at]
      refine Finset.sum_congr rfl fun n _ => ?_
      rw [he j hi, hs j hi]
      refine congrArg₂ (· * ·) ?_ rfl
      unfold wt
      refine if_congr ?_ rfl rfl
      simp only []
      omega
    · rename_i hjj
      rw [off_at]
      refine Finset.sum_congr rfl fun n _ => ?_
      rw [he j hj, hs j hj]
      refine congrArg₂ (· * ·) ?_ rfl
      unfold wt
      rw [if_pos]
      simp only []
      omega
  · unfold wt
    rw [if_neg (by simp only []; omega), zero_mul]

/-- A stored tile is the block's function at the tile's place. -/
theorem tile_at (x0 x1 : QBlk) (x2 : VBlk) (x3 : OBlk) (h : Fin 2) (i : ℕ) (hi : i < 8) (r : Fin 512) (c : Fin 128) :
    fin (sums (ldq x0 h i) (ldq x1 h) (ldv x2 h) i i) (ldo x3 h i) (ix2 r c)
      = blockAt x0 x1 x2 x3 h ⟨512 * i + r, by omega⟩ c := by
  rw [fin_at, tile_sums x0 x1 x2 h i hi r ⟨c, by omega⟩ (fun n => x2 (ix4 0 h n c)) (fun j hj n => by
      rw [ext_value, ldv_at x2 h j hj]),
    tile_sums x0 x1 x2 h i hi r 128 (fun _ => 1) (fun j hj n => ext_one _ n), ldo_at x3 h i hi]
  unfold blockAt
  simp only [mul_one]

/-- The block's function at an index of the block. -/
def blockFn (x0 x1 : QBlk) (x2 : VBlk) (x3 : OBlk) (y : S4096x256.Idx) : EReal :=
  blockAt x0 x1 x2 x3 ⟨(y 1 : ℕ) / 128, by have : (y 1 : ℕ) < 256 := (y 1).isLt; omega⟩ (y 0)
    ⟨(y 1 : ℕ) % 128, Nat.mod_lt _ (by decide)⟩

theorem tile_idx (x0 x1 : QBlk) (x2 : VBlk) (x3 : OBlk) (h : Fin 2) (i : ℕ) (hi : i < 8) (x : S512x128.Idx)
    (y : S4096x256.Idx) (h0 : (y 0 : ℕ) = 512 * i + x 0) (h1 : (y 1 : ℕ) = 128 * (h : ℕ) + x 1) :
    fin (sums (ldq x0 h i) (ldq x1 h) (ldv x2 h) i i) (ldo x3 h i) x = blockFn x0 x1 x2 x3 y := by
  have hx : (x 1 : ℕ) < 128 := (x 1).isLt
  rw [eq_ix2 x]
  refine (tile_at x0 x1 x2 x3 h i hi (x 0) (x 1)).trans ?_
  unfold blockFn
  congr 1
  · exact Fin.ext (by simp only []; omega)
  · exact Fin.ext (by simp only []; omega)
  · exact Fin.ext (by simp only []; omega)

theorem out_at (x0 x1 : QBlk) (x2 : VBlk) (x3 : OBlk) (y : S4096x256.Idx) :
    out0_4 (F := Ideal) x0 x1 x2 x3 y = blockFn x0 x1 x2 x3 y := by
  unfold_out out0_4
  have t : ∀ (h : Fin 2) (i : ℕ) (x : S512x128.Idx), i < 8 → (y 0 : ℕ) = 512 * i + x 0 → (y 1 : ℕ) = 128 * (h : ℕ) + x 1 →
      fin (sums (ldq x0 h i) (ldq x1 h) (ldv x2 h) i i) (ldo x3 h i) x = blockFn x0 x1 x2 x3 y :=
    fun h i x hi h0 h1 => tile_idx x0 x1 x2 x3 h i hi x y h0 h1
  canon_tiles x h
  case piece0 => exact t 1 7 x (by decide) (by omega) (by simp only [Fin.val_zero, Fin.val_one]; omega)
  case piece1 => exact t 1 6 x (by decide) (by omega) (by simp only [Fin.val_zero, Fin.val_one]; omega)
  case piece2 => exact t 1 5 x (by decide) (by omega) (by simp only [Fin.val_zero, Fin.val_one]; omega)
  case piece3 => exact t 1 4 x (by decide) (by omega) (by simp only [Fin.val_zero, Fin.val_one]; omega)
  case piece4 => exact t 1 3 x (by decide) (by omega) (by simp only [Fin.val_zero, Fin.val_one]; omega)
  case piece5 => exact t 1 2 x (by decide) (by omega) (by simp only [Fin.val_zero, Fin.val_one]; omega)
  case piece6 => exact t 1 1 x (by decide) (by omega) (by simp only [Fin.val_zero, Fin.val_one]; omega)
  case piece7 => exact t 1 0 x (by decide) (by omega) (by simp only [Fin.val_zero, Fin.val_one]; omega)
  case piece8 => exact t 0 7 x (by decide) (by omega) (by simp only [Fin.val_zero, Fin.val_one]; omega)
  case piece9 => exact t 0 6 x (by decide) (by omega) (by simp only [Fin.val_zero, Fin.val_one]; omega)
  case piece10 => exact t 0 5 x (by decide) (by omega) (by simp only [Fin.val_zero, Fin.val_one]; omega)
  case piece11 => exact t 0 4 x (by decide) (by omega) (by simp only [Fin.val_zero, Fin.val_one]; omega)
  case piece12 => exact t 0 3 x (by decide) (by omega) (by simp only [Fin.val_zero, Fin.val_one]; omega)
  case piece13 => exact t 0 2 x (by decide) (by omega) (by simp only [Fin.val_zero, Fin.val_one]; omega)
  case piece14 => exact t 0 1 x (by decide) (by omega) (by simp only [Fin.val_zero, Fin.val_one]; omega)
  case piece15 => exact t 0 0 x (by decide) (by omega) (by simp only [Fin.val_zero, Fin.val_one]; omega)

end Cert.Attn

end
-- ==== Proof.Array.lean ====
/- The attention call's result as one function of its four arguments. -/
module

public import proofs.«01_k».proof.Proof.Block
public import proofs.«01_k».proof.Proof.Gen.KernelIdeal.Value

@[expose] public section

set_option maxRecDepth 16384

noncomputable section

namespace Cert.Attn

open Idealize.ShloMosaic Idealize.ShloMosaic.TcCoe Idealize.SL.Sem
open Cert.KernelIdeal Cert.KernelIdeal.Gen

/-- The weight of key `n` for query `r` in head `h` of batch `b`. -/
def weight (Q K : FVec Ideal S4x4x4096x256 .bf16) (b h : Fin 4) (r n : Fin 4096) : EReal :=
  if (n : ℕ) ≤ r then Ideal.exp2 (∑ d : Fin 256, Q (ix4 b h r d) * K (ix4 b h n d)) else 0

/-- The attention of one query in one head, times its gate `g`. -/
def attnAt (Q K : FVec Ideal S4x4x4096x256 .bf16) (V : FVec Ideal S4x4x4096x128 .bf16) (b h : Fin 4) (r : Fin 4096)
    (c : Fin 128) (g : EReal) : EReal :=
  (∑ n, weight Q K b h r n * V (ix4 b h n c)) * Ideal.div 1 (∑ n, weight Q K b h r n) * g

/-- The call's result: row `b * 4096 + r`, column `h * 128 + c`. -/
def attn (Q K : FVec Ideal S4x4x4096x256 .bf16) (V : FVec Ideal S4x4x4096x128 .bf16) (G : FVec Ideal S16384x512 .bf16) :
    FVec Ideal S16384x512 .bf16 := fun j =>
  attnAt Q K V ⟨(j 0 : ℕ) / 4096, by have : (j 0 : ℕ) < 16384 := (j 0).isLt; omega⟩
    ⟨(j 1 : ℕ) / 128, by have : (j 1 : ℕ) < 512 := (j 1).isLt; omega⟩
    ⟨(j 0 : ℕ) % 4096, Nat.mod_lt _ (by decide)⟩ ⟨(j 1 : ℕ) % 128, Nat.mod_lt _ (by decide)⟩ (G j)

variable (m : (ℓ : Loc nD τ sig) → Buf (Elt Ideal) ℓ)

theorem idx : ∀ t : Fin cfg0.N, win0_0.index t = ![t.val / 2, t.val % 2, 0, 0] ∧ win0_1.index t = ![t.val / 2, t.val % 2, 0, 0]
    ∧ win0_2.index t = ![t.val / 2, t.val % 2, 0, 0] ∧ win0_3.index t = ![t.val / 2, t.val % 2]
    ∧ win0_4.index t = ![t.val / 2, t.val % 2] ∧ t.val / 2 < 4 :=
  (by decide +kernel : ∀ t : Fin grid0.N, _)

theorem final (c : Dev nD) : (dats m 0 c).arrAt 4 (cfgs 0).N
    = attn (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  have ht := (idx t).2.2.2.2.2
  have hy1 : (y 1 : ℕ) < 256 := (y 1).isLt
  have hy0 : (y 0 : ℕ) < 4096 := (y 0).isLt
  blk_simp
  rw [after0_4]
  refine (out_at _ _ _ _ y).trans ?_
  unfold blockFn blockAt attn attnAt wt weight
  blk_point [iblk, V, idx t]
  show (y 0 : ℕ) = (t.val / 2 * 4096 + (y 0 : ℕ)) % 4096
  omega

end Cert.Attn

end
-- ==== Proof.Soft.lean ====
/- Softmax over the extended reals: dividing the exponentials by their sum before or after the sum
   over the values is the same, and so is the base the exponentials are taken in. -/
module

public import Idealize.ShloMosaic.PureOps.Ideal.Laws
public import Idealize.ShloMosaic.Lib.Pointwise

@[expose] public section

noncomputable section

namespace Cert.Soft

open Idealize.ShloMosaic

/-- A nonnegative real factor goes into a sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The masked scores of one query, in natural units, and the weights in powers of two. -/
theorem softmax_eq {N : ℕ} (s : Fin N → ℝ) (p : Fin N → Prop) [DecidablePred p] (v : Fin N → EReal)
    (j : Fin N) (hj : p j) (m : ℝ) :
    ∑ n, Ideal.div (Ideal.exp ((if p n then ((s n : ℝ) : EReal) * ((Real.log 2 : ℝ) : EReal) else ⊥) - (m : EReal)))
        (∑ k, Ideal.exp ((if p k then ((s k : ℝ) : EReal) * ((Real.log 2 : ℝ) : EReal) else ⊥) - (m : EReal))) * v n
      = (∑ n, (if p n then Ideal.exp2 ((s n : ℝ) : EReal) else 0) * v n)
        * Ideal.div 1 (∑ n, if p n then Ideal.exp2 ((s n : ℝ) : EReal) else 0) := by
  have h2 : ∀ n, (if p n then Ideal.exp2 ((s n : ℝ) : EReal) else 0)
      = ((if p n then Real.exp (s n * Real.log 2) else 0 : ℝ) : EReal) := by
    intro n
    split
    · show ((Real.rpow 2 (s n) : ℝ) : EReal) = _
      rw [show Real.rpow 2 (s n) = (2 : ℝ) ^ (s n) from rfl, Real.rpow_def_of_pos (by norm_num), mul_comm]
    · simp
  have he : ∀ n, Ideal.exp ((if p n then ((s n : ℝ) : EReal) * ((Real.log 2 : ℝ) : EReal) else ⊥) - (m : EReal))
      = (((if p n then Real.exp (s n * Real.log 2) else 0) * Real.exp (-m) : ℝ) : EReal) := by
    intro n
    split
    · rw [← EReal.coe_mul, ← EReal.coe_sub]
      show ((Real.exp _ : ℝ) : EReal) = _
      rw [sub_eq_add_neg, Real.exp_add]
    · rw [EReal.bot_sub, zero_mul]
      rfl
  have hL : 0 < ∑ n, (if p n then Real.exp (s n * Real.log 2) else 0 : ℝ) := by
    refine Finset.sum_pos' (fun n _ => ?_) ⟨j, Finset.mem_univ j, ?_⟩
    · split
      · exact (Real.exp_pos _).le
      · exact le_refl _
    · rw [if_pos hj]; exact Real.exp_pos _
  simp only [h2, he]
  rw [sum_coe, sum_coe, ← Finset.sum_mul, show (1 : EReal) = ((1 : ℝ) : EReal) from rfl, div_real _ _ hL.ne',
    sum_mul_coe _ _ _ (by positivity)]
  refine Finset.sum_congr rfl fun n _ => ?_
  rw [div_real _ _ (by positivity), mul_right_comm, ← EReal.coe_mul, mul_div_mul_right _ _ (Real.exp_pos _).ne', mul_one_div]

/-- The greatest of finitely many masked scores is a number when one of them is not masked. -/
theorem max_real {N : ℕ} (s : Fin N → ℝ) (p : Fin N → Prop) [DecidablePred p] (j : Fin N) (hj : p j) :
    ∃ m : ℝ, max ⊥ (Finset.univ.fold max ⊥ fun n => if p n then ((s n : ℝ) : EReal) * ((Real.log 2 : ℝ) : EReal) else ⊥)
      = (m : EReal) := by
  rw [max_eq_right bot_le]
  have hlt : (Finset.univ.fold max ⊥ fun n => if p n then ((s n : ℝ) : EReal) * ((Real.log 2 : ℝ) : EReal) else ⊥) < ⊤ := by
    rw [Finset.fold_max_lt]
    refine ⟨bot_lt_top, fun n _ => ?_⟩
    split
    · rw [← EReal.coe_mul]; exact EReal.coe_lt_top _
    · exact bot_lt_top
  have hgt : ⊥ < (Finset.univ.fold max ⊥ fun n => if p n then ((s n : ℝ) : EReal) * ((Real.log 2 : ℝ) : EReal) else ⊥) := by
    rw [Finset.lt_fold_max]
    refine Or.inr ⟨j, Finset.mem_univ j, ?_⟩
    rw [if_pos hj, ← EReal.coe_mul]; exact EReal.bot_lt_coe _
  exact ⟨_, (EReal.coe_toReal hlt.ne hgt.ne').symm⟩

end Cert.Soft

end
-- ==== Proof.RefValue.lean ====
/- The reference's result at an index: the same attention. -/
module

public import proofs.«01_k».proof.Proof.Array
public import proofs.«01_k».proof.Proof.Soft
public import proofs.«01_k».proof.Proof.Gen.ReferenceIdeal.Read

@[expose] public section

set_option maxRecDepth 16384

noncomputable section

namespace Cert.Attn

open Idealize.ShloMosaic Idealize.ShloMosaic.TcCoe Idealize.SL.Sem
open Cert.ReferenceIdeal Cert.ReferenceIdeal.Gen Cert.ReferenceIdeal.Read

theorem negInf : Ideal.ofBits .f32 0xFF800000#32 = ⊥ := by
  simp [Ideal.ofBits, Ideal.ieee]

theorem two : Ideal.ofBits .f32 0x40000000#32 = ((2 : ℝ) : EReal) := by
  simp [Ideal.ofBits, Ideal.ieee]
  rw [← EReal.coe_mul]
  norm_num

/-- The reference's masked scores. -/
theorem masked (Q K : FVec Ideal S4x4x4096x256 .bf16) (b h : Fin 4) (r n : Fin 4096) :
    val_main_v15 (F := Ideal) Q K (ix4 b h r n)
      = if (n : ℕ) ≤ r then (∑ d : Fin 256, Q (ix4 b h r d) * K (ix4 b h n d)) * ((Real.log 2 : ℝ) : EReal) else ⊥ := by
  pointwise [val_main_v15, val_main_call0_v1, val_main_v14, val_main_v12, val_main_v13, val_main_v10, val_main_v11, val_main_v9,
    val_main_v8, val_main_v7, val_main_v6, val_main_v5, val_main_cst, val_main_v4, val_main_v0, val_main_v1, val_main_call0_v2,
    val_main_call0_v0, val_main_cst_0]
  rw [sel_le _ _ _ _ (by omega) (by omega)]
  refine if_congr Iff.rfl (congrArg _ ?_) negInf
  show Ideal.log (Ideal.ofBits .f32 0x40000000#32) = _
  rw [two]
  show (if (2 : ℝ) ≤ 0 then ⊥ else ((Real.log 2 : ℝ) : EReal)) = _
  rw [if_neg (by norm_num)]

/-- The host's maximum over the last of four axes. -/
theorem host_max {n0 n1 n2 n3 : ℕ} {u : Shape} (x : FVec Ideal (⟨4, ![n0, n1, n2, n3]⟩ : Shape) .f32) (init : FVec Ideal u .f32)
    (hr : (⟨4, ![n0, n1, n2, n3]⟩ : Shape).ReducesTo [3] ⟨3, ![n0, n1, n2]⟩) (hu : 0 < u.numel)
    (a : Fin n0) (b : Fin n1) (c : Fin n2) :
    Host.reduce (FloatOps.maximumf (F := Ideal) (φ := .f32)) x init hr hu (ix3 a b c)
      = Finset.univ.fold max (init (Shape.Idx.first hu)) fun n : Fin n3 => x (ix4 a b c n) := by
  rw [Host.reduce_eq_fold, hr.fold_fiber_r4_a3]
  rfl

/-- The greatest masked score of a query. -/
theorem rowMax (Q K : FVec Ideal S4x4x4096x256 .bf16) (b h : Fin 4) (r : Fin 4096) :
    val_main_v18 (F := Ideal) Q K (ix3 b h r)
      = max ⊥ (Finset.univ.fold max ⊥ fun n : Fin 4096 => val_main_v15 (F := Ideal) Q K (ix4 b h r n)) := by
  have h16 : ∀ x : FVec Ideal S4x4x4096x4096 .f32,
      Host.reduce FloatOps.maximumf x (val_main_cst_1 (F := Ideal)) reducesTo_S4x4x4096x4096_S4x4x4096_d3 h_S_ (ix3 b h r)
        = Finset.univ.fold max ⊥ fun n : Fin 4096 => x (ix4 b h r n) := by
    intro x
    exact (host_max x _ _ _ b h r).trans (by rw [show val_main_cst_1 (F := Ideal) (Shape.Idx.first h_S_) = ⊥ from negInf])
  rw [val_main_v18_apply, val_main_v17_apply]
  refine congrArg₂ max ?_ ?_
  · exact negInf
  · unfold val_main_v16
    exact h16 _

theorem expo (Q K : FVec Ideal S4x4x4096x256 .bf16) (b h : Fin 4) (r n : Fin 4096) :
    val_main_v22 (F := Ideal) Q K (ix4 b h r n)
      = Ideal.exp (val_main_v15 (F := Ideal) Q K (ix4 b h r n) - val_main_v18 (F := Ideal) Q K (ix3 b h r)) := by
  pointwise [val_main_v22, val_main_v21, val_main_v20, val_main_v19]

theorem prob (Q K : FVec Ideal S4x4x4096x256 .bf16) (b h : Fin 4) (r n : Fin 4096) :
    val_main_v26 (F := Ideal) Q K (ix4 b h r n)
      = Ideal.div (val_main_v22 (F := Ideal) Q K (ix4 b h r n)) (∑ k : Fin 4096, val_main_v22 (F := Ideal) Q K (ix4 b h r k)) := by
  pointwise [val_main_v26, val_main_v25, val_main_v24, val_main_v23, val_main_cst_3]

theorem mix (Q K : FVec Ideal S4x4x4096x256 .bf16) (V : FVec Ideal S4x4x4096x128 .bf16) (b h : Fin 4) (r : Fin 4096) (c : Fin 128) :
    val_main_v27 (F := Ideal) Q K V (ix4 b h r c)
      = ∑ n : Fin 4096, val_main_v26 (F := Ideal) Q K (ix4 b h r n) * V (ix4 b h n c) := by
  pointwise [val_main_v27, val_main_v2]

theorem gated (Q K : FVec Ideal S4x4x4096x256 .bf16) (V : FVec Ideal S4x4x4096x128 .bf16) (G : FVec Ideal S16384x512 .bf16)
    (r : Fin 16384) (c : Fin 512) :
    val_main_v31 (F := Ideal) Q K V G (ix2 r c)
      = val_main_v27 (F := Ideal) Q K V (ix4 ⟨(r : ℕ) / 4096, by omega⟩ ⟨(c : ℕ) / 128, by omega⟩
          ⟨(r : ℕ) % 4096, Nat.mod_lt _ (by decide)⟩ ⟨(c : ℕ) % 128, Nat.mod_lt _ (by decide)⟩) * G (ix2 r c) := by
  rw [val_main_v31_apply, val_main_v30_apply, val_main_v29_apply, val_main_v28_apply]
  refine congrArg₂ (· * ·) (congrArg _ (funext fun a => Fin.ext ?_)) rfl
  match a with
  | ⟨0, _⟩ => show ((r : ℕ) * 512 + c) / 2097152 = r / 4096; omega
  | ⟨1, _⟩ => show ((r : ℕ) * 512 + c) / 128 % 4 = c / 128; omega
  | ⟨2, _⟩ => show ((r : ℕ) * 512 + c) / 512 % 4096 = r % 4096; omega
  | ⟨3, _⟩ => show ((r : ℕ) * 512 + c) % 128 = c % 128; omega

/-- The scores of finite queries and keys are numbers. -/
theorem score_real (Q K : FVec Ideal S4x4x4096x256 .bf16) (hQ : ∀ i, ∃ a : ℝ, Q i = (a : EReal)) (hK : ∀ i, ∃ a : ℝ, K i = (a : EReal))
    (b h : Fin 4) (r n : Fin 4096) : ∃ s : ℝ, (∑ d : Fin 256, Q (ix4 b h r d) * K (ix4 b h n d)) = (s : EReal) := by
  choose q hq using hQ
  choose k hk using hK
  refine ⟨∑ d : Fin 256, q (ix4 b h r d) * k (ix4 b h n d), ?_⟩
  rw [← Cert.Soft.sum_coe]
  exact Finset.sum_congr rfl fun d _ => by rw [hq, hk, EReal.coe_mul]

theorem ref_eq (Q K : FVec Ideal S4x4x4096x256 .bf16) (V : FVec Ideal S4x4x4096x128 .bf16) (G : FVec Ideal S16384x512 .bf16)
    (hQ : ∀ i, ∃ a : ℝ, Q i = (a : EReal)) (hK : ∀ i, ∃ a : ℝ, K i = (a : EReal)) :
    val_main_v31 (F := Ideal) Q K V G = attn Q K V G := by
  funext j
  rw [eq_ix2 j]
  refine (gated Q K V G (j 0) (j 1)).trans ?_
  show _ = attnAt Q K V ⟨(j 0 : ℕ) / 4096, _⟩ ⟨(j 1 : ℕ) / 128, _⟩ ⟨(j 0 : ℕ) % 4096, _⟩ ⟨(j 1 : ℕ) % 128, _⟩ (G (ix2 (j 0) (j 1)))
  unfold attnAt weight
  refine congrArg₂ (· * ·) ?_ rfl
  rw [mix]
  simp only [prob, expo]
  generalize hr : (⟨(j 0 : ℕ) % 4096, _⟩ : Fin 4096) = r
  generalize hb : (⟨(j 0 : ℕ) / 4096, _⟩ : Fin 4) = b
  generalize hh : (⟨(j 1 : ℕ) / 128, _⟩ : Fin 4) = h
  choose s hs using score_real Q K hQ hK b h r
  obtain ⟨M, hM⟩ := Cert.Soft.max_real s (fun n => (n : ℕ) ≤ r) r (le_refl _)
  have hm : val_main_v18 (F := Ideal) Q K (ix3 b h r) = (M : EReal) := by
    rw [rowMax]; simp only [masked, hs]; exact hM
  have hr' : (j 0 : ℕ) % 4096 = r := congrArg Fin.val hr
  simp only [hm, masked, hs, hr']
  exact Cert.Soft.softmax_eq s (fun n => (n : ℕ) ≤ r) _ r (le_refl _) M

end Cert.Attn

end
-- ==== Proof.Finite.lean ====
/- Finite queries and keys: what the precondition says of them at the ideal numbers. -/
module

public import proofs.«01_k».proof.Pre_finite_qk
public import Idealize.ShloMosaic.Lib.Pointwise
public import Idealize.ShloMosaic.PureOps.Ideal

@[expose] public section

noncomputable section

namespace Cert.Attn

open Idealize.ShloMosaic

instance preFacts : Cert.Pre_finite_qk.Facts := ⟨by decide, by decide⟩

theorem posInf : Ideal.ofBits .f32 0x7F800000#32 = ⊤ := by
  simp [Ideal.ofBits, Ideal.ieee]

/-- A value whose greater sign is below infinity is a number. -/
theorem real_of_abs (x : EReal) (h : max x (-x) < ⊤) : ∃ a : ℝ, x = (a : EReal) := by
  induction x with
  | bot => simp at h
  | coe a => exact ⟨a, rfl⟩
  | top => simp at h

/-- The same of the word the comparison gives. -/
theorem real_of_word (x : EReal) (h : BitVec.ofBool (decide (max x (-x) < Ideal.ofBits .f32 0x7F800000#32)) = 1#1) :
    ∃ a : ℝ, x = (a : EReal) := by
  rw [posInf] at h
  refine real_of_abs x ?_
  by_contra hn
  rw [decide_eq_false hn] at h
  exact absurd h (by decide)

theorem finite_of_pre (Q K : FVec Ideal Pre_finite_qk.S4x4x4096x256 .bf16) (V : FVec Ideal Pre_finite_qk.S4x4x4096x128 .bf16)
    (G : FVec Ideal Pre_finite_qk.S16384x512 .bf16)
    (h : (Cert.Pre_finite_qk.fn (F := Ideal) Q K V G).1 = (fun _ => 1#1) ∧ (Cert.Pre_finite_qk.fn (F := Ideal) Q K V G).2 = fun _ => 1#1) :
    (∀ i, ∃ a : ℝ, Q i = (a : EReal)) ∧ ∀ i, ∃ a : ℝ, K i = (a : EReal) := by
  refine ⟨fun i => real_of_word _ ?_, fun i => real_of_word _ ?_⟩
  · have hi := congrFun h.1 i
    unfold Cert.Pre_finite_qk.fn at hi
    pointwise at hi
    exact hi
  · have hi := congrFun h.2 i
    unfold Cert.Pre_finite_qk.fn at hi
    pointwise at hi
    exact hi

end Cert.Attn

end
-- ==== Proof.FuseBits.Base.lean ====
/- What the run of the layer's projection call (`Kernel2`) is stated over: the conditions of its branches at each grid point, its staging buffers and scratch. -/
module

public import proofs.«01_k».proof.Proof.Gen.Kernel2.Launch
public import proofs.«01_k».proof.Proof.Gen.Kernel2.Skeleton
public import proofs.«01_k».proof.Proof.Gen.Kernel2.Points
public import proofs.«01_k».proof.Proof.Gen.Kernel2.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.FuseBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2 Cert.Kernel2.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — decided over the grid. -/
theorem hcond0_1 : ∀ t : Fin cfg0.N, cond0_1 (grid0.coords t) ↔ t.val % 2 = 0 :=
  (by decide +kernel : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x768 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x512 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S512x512 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S512x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S512x256 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S512x256 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S512x256 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S8x256 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x4x512x256 .bf16 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x4x512x256 .bf16 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x4x512x128 .bf16 := win0_30.stage (cfg0.slots t 30)
abbrev hs0_30 (t : Fin cfg0.N) : (ms0_30 t).IsWhole := hstage0_30 ((cfg0.slots t 30).cast nbuf0_30)
/-- The scratch operands: whole scoped buffers of the kernel's own, passed beside the windows. -/
abbrev scM0_0 : Memref sig .tc .vmem S512x2560 .f32 := Memref.whole cc0_scratch0
abbrev scM0_1 : Memref sig .tc .vmem S512x2560 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.FuseBits

end
-- ==== Proof.FuseBits.Run.lean ====
/- The run of the projection call's body. -/
module

public import proofs.«01_k».proof.Proof.FuseBits.Base

@[expose] public section

set_option maxRecDepth 16384

noncomputable section

namespace Cert.FuseBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2 Cert.Kernel2.Gen

variable {F : FTy → Type} [FloatOps F]

local notation "𝕄" => MT nD τ sig Unit (Elt F) ℕ (UR sig nD τ) ℕ

-- the run of a body of this length walks past the default budget
set_option maxHeartbeats 6000000 in
/-- The body on whole staging buffers, in each of its three cases: the inputs' buffers are handed back as they were, every other buffer at some contents. -/
theorem kernelRun (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x2512x1024 .bf16) (harg6 : arg6.IsWhole) (arg7 : Memref sig .tc .vmem S1x256x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x256x768 .bf16) (harg13 : arg13.IsWhole) (arg14 : Memref sig .tc .vmem S1x1x128 .f32) (harg14 : arg14.IsWhole) (arg15 : Memref sig .tc .vmem S1x128x1024 .bf16) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x1x128 .f32) (harg19 : arg19.IsWhole) (arg20 : Memref sig .tc .vmem S1x1x128 .f32) (harg20 : arg20.IsWhole) (arg21 : Memref sig .tc .vmem S512x1024 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x256 .bf16) (harg25 : arg25.IsWhole) (arg26 : Memref sig .tc .vmem S512x256 .bf16) (harg26 : arg26.IsWhole) (arg27 : Memref sig .tc .vmem S512x256 .bf16) (harg27 : arg27.IsWhole) (arg28 : Memref sig .tc .vmem S8x256 .f32) (harg28 : arg28.IsWhole) (arg29 : Memref sig .tc .vmem S1x4x512x256 .bf16) (harg29 : arg29.IsWhole) (arg30 : Memref sig .tc .vmem S1x4x512x256 .bf16) (harg30 : arg30.IsWhole) (arg31 : Memref sig .tc .vmem S1x4x512x128 .bf16) (harg31 : arg31.IsWhole) (arg32 : Memref sig .tc .vmem S512x2560 .f32) (harg32 : arg32.IsWhole) (arg33 : Memref sig .tc .vmem S512x2560 .f32) (harg33 : arg33.IsWhole) (hc : (cond0_0 i ∧ cond0_1 i ∧ ¬ cond0_2 i) ∨ (¬ cond0_0 i ∧ cond0_1 i ∧ ¬ cond0_2 i) ∨ (¬ cond0_0 i ∧ ¬ cond0_1 i ∧ cond0_2 i))
    (x0 : Vec F S512x1024 .f32) (x1 : Vec F S512x512 .bf16) (x2 : Vec F S512x512 .bf16) (x3 : Vec F S1x1024x1024 .bf16) (x4 : Vec F S1x1x1024 .f32) (x5 : Vec F S1x2512x1024 .bf16) (x6 : Vec F S1x256x1024 .bf16) (x7 : Vec F S512x128 .f32) (x8 : Vec F S512x128 .f32) (x9 : Vec F S1x128x256 .bf16) (x10 : Vec F S1x1x256 .f32) (x11 : Vec F S1x1x256 .f32) (x12 : Vec F S1x256x768 .bf16) (x13 : Vec F S1x1x128 .f32) (x14 : Vec F S1x128x1024 .bf16) (x15 : Vec F S1x1x128 .f32) (x16 : Vec F S1x1x128 .f32) (x17 : Vec F S1x1x128 .f32) (x18 : Vec F S1x1x128 .f32) (x19 : Vec F S1x1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
          ⊢ wp frame (wpE (defs₀ (F := F)) Variants.none c none) E (cc0_outproj_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
    intro E K
    simp only [cc0_outproj_proj_eq_skeleton]; unfold cc0_outproj_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    rcases hc with ⟨hc0, hc1, hc2⟩ | ⟨hc0, hc1, hc2⟩ | ⟨hc0, hc1, hc2⟩
    all_goals
        sl_exec (disch := first | sl_exact hc0 | sl_exact hc1 | sl_exact hc2)
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr; · ipureintro; exact harg7.read_unread _
          iexact H6
        isplitl [H7]
        · iexists _; isplitr; · ipureintro; exact harg8.read_unread _
          iexact H7
        isplitl [H8]
        · iexists _; isplitr; · ipureintro; exact harg9.read_unread _
          iexact H8
        isplitl [H9]
        · iexists _; isplitr; · ipureintro; exact harg10.read_unread _
          iexact H9
        isplitl [H10]
        · iexists _; isplitr; · ipureintro; exact harg11.read_unread _
          iexact H10
        isplitl [H11]
        · iexists _; isplitr; · ipureintro; exact harg12.read_unread _
          iexact H11
        isplitl [H12]
        · iexists _; isplitr; · ipureintro; exact harg13.read_unread _
          iexact H12
        isplitl [H13]
        · iexists _; isplitr; · ipureintro; exact harg14.read_unread _
          iexact H13
        isplitl [H14]
        · iexists _; isplitr; · ipureintro; exact harg15.read_unread _
          iexact H14
        isplitl [H15]
        · iexists _; isplitr; · ipureintro; exact harg16.read_unread _
          iexact H15
        isplitl [H16]
        · iexists _; isplitr; · ipureintro; exact harg17.read_unread _
          iexact H16
        isplitl [H17]
        · iexists _; isplitr; · ipureintro; exact harg18.read_unread _
          iexact H17
        isplitl [H18]
        · iexists _; isplitr; · ipureintro; exact harg19.read_unread _
          iexact H18
        isplitl [H19]
        · iexists _; isplitr; · ipureintro; exact harg20.read_unread _
          iexact H19
        isplitl [H20]
        · iexists _, _; isplitr; swap; · iexact H20
          ipureintro; rfl
        isplitl [H21]
        · iexists _, _; isplitr; swap; · iexact H21
          ipureintro; rfl
        isplitl [H22]
        · iexists _, _; isplitr; swap; · iexact H22
          ipureintro; rfl
        isplitl [H23]
        · iexists _, _; isplitr; swap; · iexact H23
          ipureintro; rfl
        isplitl [H24]
        · iexists _, _; isplitr; swap; · iexact H24
          ipureintro; rfl
        isplitl [H25]
        · iexists _, _; isplitr; swap; · iexact H25
          ipureintro; rfl
        isplitl [H26]
        · iexists _, _; isplitr; swap; · iexact H26
          ipureintro; rfl
        isplitl [H27]
        · iexists _, _; isplitr; swap; · iexact H27
          ipureintro; rfl
        isplitl [H28]
        · iexists _, _; isplitr; swap; · iexact H28
          ipureintro; rfl
        isplitl [H29]
        · iexists _, _; isplitr; swap; · iexact H29
          ipureintro; rfl
        isplitl [H30]
        · iexists _, _; isplitr; swap; · iexact H30
          ipureintro; rfl
        isplitl [HS0]
        · iexists _, _; isplitr; swap; · iexact HS0
          ipureintro; rfl
        iexists _, _; isplitr; swap; · iexact HS1
        ipureintro; rfl

end Cert.FuseBits

end
-- ==== Proof.FuseBits.Frame.lean ====
/- The frame of the layer's projection call: the pipeline's proof data, the body at any point of the grid, the launch. -/
module

public import proofs.«01_k».proof.Proof.FuseBits.Run

@[expose] public section

set_option maxRecDepth 16384

noncomputable section

namespace Cert.FuseBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2 Cert.Kernel2.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows of which nothing is stated. -/
def forgets0 : Fin 31 → Bool := fun w => w.val == 20 || w.val == 21 || w.val == 22 || w.val == 23 || w.val == 24 || w.val == 25 || w.val == 26 || w.val == 27 || w.val == 28 || w.val == 29 || w.val == 30

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, h⟩ => Pipeline.Dat.unnamed (cfg := cfg0) ⟨30, h⟩ t
    | ⟨_ + 31, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body hands back of a buffer, window by window. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
theorem leaves0_17 (c : Dev nD) (t : Fin cfg0.N) : (dats m 0 c).leavesExact 17 t = owns (c : Thread nD τ) (ms0_17 t) fullShare (iblk m c 17 t) := by
  unfold Dat.leavesExact; rw [liveAt0_17 t, after0_17]
theorem leaves0_18 (c : Dev nD) (t : Fin cfg0.N) : (dats m 0 c).leavesExact 18 t = owns (c : Thread nD τ) (ms0_18 t) fullShare (iblk m c 18 t) := by
  unfold Dat.leavesExact; rw [liveAt0_18 t, after0_18]
theorem leaves0_19 (c : Dev nD) (t : Fin cfg0.N) : (dats m 0 c).leavesExact 19 t = owns (c : Thread nD τ) (ms0_19 t) fullShare (iblk m c 19 t) := by
  unfold Dat.leavesExact; rw [liveAt0_19 t, after0_19]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))

set_option maxHeartbeats 9600000 in
/-- The body at any point: the inputs' buffers hold their blocks, the point is in one of the run's cases by arithmetic, the
    invariant lends the body its scratch and takes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 33 := lt_of_lt_of_eq t.isLt (show cfg0.N = 33 from N_0)
  have hc : (cond0_0 (grid0.coords t) ∧ cond0_1 (grid0.coords t) ∧ ¬ cond0_2 (grid0.coords t))
      ∨ (¬ cond0_0 (grid0.coords t) ∧ cond0_1 (grid0.coords t) ∧ ¬ cond0_2 (grid0.coords t))
      ∨ (¬ cond0_0 (grid0.coords t) ∧ ¬ cond0_1 (grid0.coords t) ∧ cond0_2 (grid0.coords t)) := by
    rw [hcond0_0 t, hcond0_1 t, hcond0_2 t]; omega
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, H30, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option maxHeartbeats 1860000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel2`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

-- `θ_run_frame_forget`'s implicit arguments are found by unifying its conclusion with this one, which takes unfolding plain
-- definitions in a metavariable's type
set_option backward.isDefEq.respectTransparency.types false in
set_option maxHeartbeats 4000000 in
/-- `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 20, 21, 22, 23, 24, 25, 26, 27, 28, 29, 30) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.FuseBits

end
-- ==== Proof.FuseIdeal.Base.lean ====
/- What the run of the layer's projection call (`Kernel2Ideal`) is stated over: the conditions of its branches at each grid point, its staging buffers and scratch, and the four results as functions of the blocks the body reads. -/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.FuseIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — decided over the grid. -/
theorem hcond0_1 : ∀ t : Fin cfg0.N, cond0_1 (grid0.coords t) ↔ t.val % 2 = 0 :=
  (by decide +kernel : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x768 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x512 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S512x512 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S512x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S512x256 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S512x256 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S512x256 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S8x256 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x4x512x256 .bf16 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x4x512x256 .bf16 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x4x512x128 .bf16 := win0_30.stage (cfg0.slots t 30)
abbrev hs0_30 (t : Fin cfg0.N) : (ms0_30 t).IsWhole := hstage0_30 ((cfg0.slots t 30).cast nbuf0_30)
/-- The scratch operands: whole scoped buffers of the kernel's own, passed beside the windows. -/
abbrev scM0_0 : Memref sig .tc .vmem S512x2560 .f32 := Memref.whole cc0_scratch0
abbrev scM0_1 : Memref sig .tc .vmem S512x2560 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves in the named results, from the blocks it reads -/

/-- The rows of the input projection's weight that the chunk at row `n` reads. -/
abbrev wr0 : Rect S1x2512x1024 := Rect.unit (s := S1x2512x1024) ![0, 512, 0] S1x256x1024.size inb_S1x2512x1024_S1x256x1024_0_512_0
abbrev wr1 : Rect S1x2512x1024 := Rect.unit (s := S1x2512x1024) ![0, 768, 0] S1x256x1024.size inb_S1x2512x1024_S1x256x1024_0_768_0
abbrev wr2 : Rect S1x2512x1024 := Rect.unit (s := S1x2512x1024) ![0, 1040, 0] S1x256x1024.size inb_S1x2512x1024_S1x256x1024_0_1040_0
abbrev wr3 : Rect S1x2512x1024 := Rect.unit (s := S1x2512x1024) ![0, 1296, 0] S1x256x1024.size inb_S1x2512x1024_S1x256x1024_0_1296_0
abbrev wr4 : Rect S1x2512x1024 := Rect.unit (s := S1x2512x1024) ![0, 2000, 0] S1x256x1024.size inb_S1x2512x1024_S1x256x1024_0_2000_0
abbrev wr5 : Rect S1x2512x1024 := Rect.unit (s := S1x2512x1024) ![0, 2256, 0] S1x256x1024.size inb_S1x2512x1024_S1x256x1024_0_2256_0
/-- The whole block and the two halves of a result block. -/
abbrev whole : Rect S512x1024 := Rect.unit (s := S512x1024) ![0, 0] S512x1024.size inb_S512x1024_S512x1024_0_0
abbrev wholeH : Rect S512x512 := Rect.unit (s := S512x512) ![0, 0] S512x512.size inb_S512x512_S512x512_0_0
abbrev wholeW : Rect S1x1024x1024 := Rect.unit (s := S1x1024x1024) ![0, 0, 0] S1x1024x1024.size inb_S1x1024x1024_S1x1024x1024_0_0_0
abbrev wholeG : Rect S1x1x1024 := Rect.unit (s := S1x1x1024) ![0, 0, 0] S1x1x1024.size inb_S1x1x1024_S1x1x1024_0_0_0
abbrev left : Rect S512x512 := Rect.unit (s := S512x512) ![0, 0] S512x256.size inb_S512x512_S512x256_0_0
abbrev right : Rect S512x512 := Rect.unit (s := S512x512) ![0, 256] S512x256.size inb_S512x512_S512x256_0_256

/-- The residual stream after the output projection. -/
def xoV (x0 : Vec F S512x1024 .f32) (x1 x2 : Vec F S512x512 .bf16) (x3 : Vec F S1x1024x1024 .bf16) : FVec F S512x1024 .f32 :=
  k0_pay4 (View.ld x0 whole) (View.ld x3 wholeW) (View.ld x1 wholeH) (View.ld x2 wholeH)
/-- Its norm. -/
def hV (x0 : Vec F S512x1024 .f32) (x1 x2 : Vec F S512x512 .bf16) (x3 : Vec F S1x1024x1024 .bf16) (x4 : Vec F S1x1x1024 .f32) : FVec F S512x1024 .bf16 :=
  k0_pay5 (View.ld x0 whole) (View.ld x3 wholeW) (View.ld x1 wholeH) (View.ld x2 wholeH) (View.ld x4 wholeG)

def xoB (x0 : Vec F S512x1024 .f32) (x1 x2 : Vec F S512x512 .bf16) (x3 : Vec F S1x1024x1024 .bf16) : Vec F S512x1024 .f32 :=
  View.canon [⟨whole, xoV x0 x1 x2 x3⟩]
def gvB (x0 : Vec F S512x1024 .f32) (x1 x2 : Vec F S512x512 .bf16) (x3 : Vec F S1x1024x1024 .bf16) (x4 : Vec F S1x1x1024 .f32) (x5 : Vec F S1x2512x1024 .bf16) : Vec F S512x512 .bf16 :=
  View.canon [⟨right, k0_pay12 (hV x0 x1 x2 x3 x4) (View.ld x5 wr1)⟩, ⟨left, k0_pay11 (hV x0 x1 x2 x3 x4) (View.ld x5 wr0)⟩]
def ggB (x0 : Vec F S512x1024 .f32) (x1 x2 : Vec F S512x512 .bf16) (x3 : Vec F S1x1024x1024 .bf16) (x4 : Vec F S1x1x1024 .f32) (x5 : Vec F S1x2512x1024 .bf16) : Vec F S512x512 .bf16 :=
  View.canon [⟨right, k0_pay14 (hV x0 x1 x2 x3 x4) (View.ld x5 wr3)⟩, ⟨left, k0_pay13 (hV x0 x1 x2 x3 x4) (View.ld x5 wr2)⟩]
def mgB (x0 : Vec F S512x1024 .f32) (x1 x2 : Vec F S512x512 .bf16) (x3 : Vec F S1x1024x1024 .bf16) (x4 : Vec F S1x1x1024 .f32) (x5 : Vec F S1x2512x1024 .bf16) : Vec F S512x512 .bf16 :=
  View.canon [⟨right, k0_pay44 (hV x0 x1 x2 x3 x4) (View.ld x5 wr5)⟩, ⟨left, k0_pay15 (hV x0 x1 x2 x3 x4) (View.ld x5 wr4)⟩]

/-- The stores of a result cover its block. -/
theorem cover20 (p : Vec F S512x1024 .f32) (y : S512x1024.Idx) :
    ∃ pc ∈ ([⟨whole, p⟩] : List (View.Piece (Elt F) S512x1024 .f32)), y ∈ pc.1.set :=
  View.cover_of_tiled [⟨whole, p⟩] S512x1024.size (by rfl) y
theorem coverH (p q : Vec F S512x256 .bf16) (y : S512x512.Idx) :
    ∃ pc ∈ ([⟨right, p⟩, ⟨left, q⟩] : List (View.Piece (Elt F) S512x512 .bf16)), y ∈ pc.1.set :=
  View.cover_of_tiled [⟨right, p⟩, ⟨left, q⟩] S512x256.size (by rfl) y

/-- What the later stages read of the scratch for the attention's values, and the chunk of columns it is a part of. -/
abbrev ckvR : Rect S512x2560 := Rect.unit (s := S512x2560) ![0, 1792] S512x128.size inb_S512x2560_S512x128_0_1792
abbrev wholeZ : Rect S512x2560 := Rect.unit (s := S512x2560) ![0, 0] S512x2560.size inb_S512x2560_S512x2560_0_0
abbrev mixR : Rect S512x2560 := Rect.unit (s := S512x2560) ![0, 1792] S512x256.size inb_S512x2560_S512x256_0_1792
abbrev wholeM : Rect S1x256x1024 := Rect.unit (s := S1x256x1024) ![0, 0, 0] S1x256x1024.size inb_S1x256x1024_S1x256x1024_0_0_0
abbrev wholeN : Rect S1x1x128 := Rect.unit (s := S1x1x128) ![0, 0, 0] S1x1x128.size inb_S1x1x128_S1x1x128_0_0_0
abbrev wholeU : Rect S1x128x1024 := Rect.unit (s := S1x128x1024) ![0, 0, 0] S1x128x1024.size inb_S1x128x1024_S1x128x1024_0_0_0
/-- The four heads of a block of the attention's values. -/
abbrev head0 : Rect S1x4x512x128 := Rect.unit (s := S1x4x512x128) ![0, 0, 0, 0] S1x1x512x128.size inb_S1x4x512x128_S1x1x512x128_0_0_0_0
abbrev head1 : Rect S1x4x512x128 := Rect.unit (s := S1x4x512x128) ![0, 1, 0, 0] S1x1x512x128.size inb_S1x4x512x128_S1x1x512x128_0_1_0_0
abbrev head2 : Rect S1x4x512x128 := Rect.unit (s := S1x4x512x128) ![0, 2, 0, 0] S1x1x512x128.size inb_S1x4x512x128_S1x1x512x128_0_2_0_0
abbrev head3 : Rect S1x4x512x128 := Rect.unit (s := S1x4x512x128) ![0, 3, 0, 0] S1x1x512x128.size inb_S1x4x512x128_S1x1x512x128_0_3_0_0

/-- What the body leaves in that chunk of the scratch it writes. -/
def mixB (x0 : Vec F S512x1024 .f32) (x1 x2 : Vec F S512x512 .bf16) (x3 : Vec F S1x1024x1024 .bf16) (x4 : Vec F S1x1x1024 .f32) (x6 : Vec F S1x256x1024 .bf16) : Vec F S512x256 .f32 :=
  k0_pay49 (hV x0 x1 x2 x3 x4) (View.ld x6 wholeM)

/-- The product whose last columns are the attention's values, from what is read of the scratch. -/
def kvV (z : Vec F S512x128 .f32) (x13 : Vec F S1x1x128 .f32) (x14 : Vec F S1x128x1024 .bf16) : FVec F S512x1024 .f32 :=
  k0_pay10 (k0_pay9 z (View.ld x13 wholeN)) (View.ld x14 wholeU)

def vB (z : Vec F S512x128 .f32) (x13 : Vec F S1x1x128 .f32) (x14 : Vec F S1x128x1024 .bf16) : Vec F S1x4x512x128 .bf16 :=
  View.canon [⟨head3, k0_pay2 (k0_pay114 (kvV z x13 x14))⟩, ⟨head2, k0_pay108 (kvV z x13 x14)⟩, ⟨head1, k0_pay102 (kvV z x13 x14)⟩, ⟨head0, k0_pay95 (kvV z x13 x14)⟩]

theorem coverV (p q r s : Vec F S1x1x512x128 .bf16) (y : S1x4x512x128.Idx) :
    ∃ pc ∈ ([⟨head3, p⟩, ⟨head2, q⟩, ⟨head1, r⟩, ⟨head0, s⟩] : List (View.Piece (Elt F) S1x4x512x128 .bf16)), y ∈ pc.1.set :=
  View.cover_of_tiled [⟨head3, p⟩, ⟨head2, q⟩, ⟨head1, r⟩, ⟨head0, s⟩] S1x1x512x128.size (by rfl) y

/-- The odd points compute the same terms as the even ones. -/
theorem odd_xo : @k0_pay115 F _ = @k0_pay4 F _ := rfl
theorem odd_h : @k0_pay116 F _ = @k0_pay5 F _ := rfl
theorem odd_gv0 : @k0_pay122 F _ = @k0_pay11 F _ := rfl
theorem odd_gv1 : @k0_pay123 F _ = @k0_pay12 F _ := rfl
theorem odd_gg0 : @k0_pay124 F _ = @k0_pay13 F _ := rfl
theorem odd_gg1 : @k0_pay125 F _ = @k0_pay14 F _ := rfl
theorem odd_mg0 : @k0_pay126 F _ = @k0_pay15 F _ := rfl
theorem odd_mg1 : @k0_pay155 F _ = @k0_pay44 F _ := rfl
theorem odd_mix : @k0_pay160 F _ = @k0_pay49 F _ := rfl
theorem odd_v0 : @k0_pay206 F _ = @k0_pay95 F _ := rfl
theorem odd_v1 : @k0_pay213 F _ = @k0_pay102 F _ := rfl
theorem odd_v2 : @k0_pay219 F _ = @k0_pay108 F _ := rfl
theorem odd_v3 : @k0_pay225 F _ = @k0_pay114 F _ := rfl

/-- The rows a chunk was stored to, read back. -/
theorem readTop {sp : Space} {s : Shape} {e : EltTy} (v : View sig .tc sp s e) (f : BufTy.Contents (Elt F) v.ty) (p : View.Piece (Elt F) s e) (L : List (View.Piece (Elt F) s e)) :
    View.ld (View.read (Elt F) v (v.writes (Elt F) f (p :: L))) p.1 = p.2 :=
  funext fun x => View.read_writes_cons_emb v f p.1 p.2 L x

end Cert.FuseIdeal

end
-- ==== Proof.FuseIdeal.Run.lean ====
/- The run of the projection call's body. -/
module

public import proofs.«01_k».proof.Proof.FuseIdeal.Base

@[expose] public section

set_option maxRecDepth 16384

noncomputable section

namespace Cert.FuseIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

-- the run of a body of this length walks past the default budget
set_option maxHeartbeats 6000000 in
/-- The body on whole staging buffers, in each of its three cases: the inputs' buffers are handed back as they were, the five named
    results' at the named blocks, every other buffer at some contents. -/
theorem kernelRun (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x2512x1024 .bf16) (harg6 : arg6.IsWhole) (arg7 : Memref sig .tc .vmem S1x256x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S1x128x256 .bf16) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x256x768 .bf16) (harg13 : arg13.IsWhole) (arg14 : Memref sig .tc .vmem S1x1x128 .f32) (harg14 : arg14.IsWhole) (arg15 : Memref sig .tc .vmem S1x128x1024 .bf16) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S1x1x128 .f32) (harg18 : arg18.IsWhole) (arg19 : Memref sig .tc .vmem S1x1x128 .f32) (harg19 : arg19.IsWhole) (arg20 : Memref sig .tc .vmem S1x1x128 .f32) (harg20 : arg20.IsWhole) (arg21 : Memref sig .tc .vmem S512x1024 .f32) (harg21 : arg21.IsWhole) (arg22 : Memref sig .tc .vmem S512x512 .bf16) (harg22 : arg22.IsWhole) (arg23 : Memref sig .tc .vmem S512x512 .bf16) (harg23 : arg23.IsWhole) (arg24 : Memref sig .tc .vmem S512x512 .bf16) (harg24 : arg24.IsWhole) (arg25 : Memref sig .tc .vmem S512x256 .bf16) (harg25 : arg25.IsWhole) (arg26 : Memref sig .tc .vmem S512x256 .bf16) (harg26 : arg26.IsWhole) (arg27 : Memref sig .tc .vmem S512x256 .bf16) (harg27 : arg27.IsWhole) (arg28 : Memref sig .tc .vmem S8x256 .f32) (harg28 : arg28.IsWhole) (arg29 : Memref sig .tc .vmem S1x4x512x256 .bf16) (harg29 : arg29.IsWhole) (arg30 : Memref sig .tc .vmem S1x4x512x256 .bf16) (harg30 : arg30.IsWhole) (arg31 : Memref sig .tc .vmem S1x4x512x128 .bf16) (harg31 : arg31.IsWhole) (arg32 : Memref sig .tc .vmem S512x2560 .f32) (harg32 : arg32.IsWhole) (arg33 : Memref sig .tc .vmem S512x2560 .f32) (harg33 : arg33.IsWhole) (s0 s1 : Vec F S512x2560 .f32) (z : Vec F S512x128 .f32)
    (hc : (cond0_0 i ∧ cond0_1 i ∧ ¬ cond0_2 i ∧ z = arg33.view.readCov [⟨wholeZ, k0_pay1 (F := F)⟩] ckvR.toLoadRect) ∨ (¬ cond0_0 i ∧ cond0_1 i ∧ ¬ cond0_2 i ∧ z = View.ld s1 ckvR) ∨ (¬ cond0_0 i ∧ ¬ cond0_1 i ∧ cond0_2 i ∧ z = View.ld s0 ckvR))
    (x0 : Vec F S512x1024 .f32) (x1 : Vec F S512x512 .bf16) (x2 : Vec F S512x512 .bf16) (x3 : Vec F S1x1024x1024 .bf16) (x4 : Vec F S1x1x1024 .f32) (x5 : Vec F S1x2512x1024 .bf16) (x6 : Vec F S1x256x1024 .bf16) (x7 : Vec F S512x128 .f32) (x8 : Vec F S512x128 .f32) (x9 : Vec F S1x128x256 .bf16) (x10 : Vec F S1x1x256 .f32) (x11 : Vec F S1x1x256 .f32) (x12 : Vec F S1x256x768 .bf16) (x13 : Vec F S1x1x128 .f32) (x14 : Vec F S1x128x1024 .bf16) (x15 : Vec F S1x1x128 .f32) (x16 : Vec F S1x1x128 .f32) (x17 : Vec F S1x1x128 .f32) (x18 : Vec F S1x1x128 .f32) (x19 : Vec F S1x1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ owns (c : Thread nD τ) arg32 fullShare s0 ∗ owns (c : Thread nD τ) arg33 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (xoB x0 x1 x2 x3) ∗ owns (c : Thread nD τ) arg22 fullShare (gvB x0 x1 x2 x3 x4 x5) ∗ owns (c : Thread nD τ) arg23 fullShare (ggB x0 x1 x2 x3 x4 x5) ∗ owns (c : Thread nD τ) arg24 fullShare (mgB x0 x1 x2 x3 x4 x5) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ owns (c : Thread nD τ) arg31 fullShare (vB z x13 x14) ∗ (∃ d, ⌜cond0_1 i → View.ld d mixR = mixB x0 x1 x2 x3 x4 x6⌝ ∗ owns (c : Thread nD τ) arg32 fullShare d) ∗ (∃ d, ⌜cond0_2 i → View.ld d mixR = mixB x0 x1 x2 x3 x4 x6⌝ ∗ owns (c : Thread nD τ) arg33 fullShare d)) -∗ K ⟨⟩))
          ⊢ wp frame (wpE (defs₀ (F := F)) Variants.none c none) E (cc0_outproj_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
    intro E K
    simp only [cc0_outproj_proj_eq_skeleton]; unfold cc0_outproj_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%fs0, %hs0, HS0⟩, ⟨%fs1, %hs1, HS1⟩, Hk⟩
    subst hf0 hf1 hf2 hf3 hf4 hf5 hf6 hf13 hf14 hs0 hs1
    obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hf15; obtain rfl := harg17.eq_unread hf16; obtain rfl := harg18.eq_unread hf17; obtain rfl := harg19.eq_unread hf18; obtain rfl := harg20.eq_unread hf19
    rcases hc with ⟨hc0, hc1, hc2, rfl⟩ | ⟨hc0, hc1, hc2, rfl⟩ | ⟨hc0, hc1, hc2, rfl⟩
    all_goals
        sl_exec (disch := first | sl_exact hc0 | sl_exact hc1 | sl_exact hc2)
        sl_step
        iapply Hk
        isplitl [H0]
        · iexists f0; isplitr; · ipureintro; rfl
          iexact H0
        isplitl [H1]
        · iexists f1; isplitr; · ipureintro; rfl
          iexact H1
        isplitl [H2]
        · iexists f2; isplitr; · ipureintro; rfl
          iexact H2
        isplitl [H3]
        · iexists f3; isplitr; · ipureintro; rfl
          iexact H3
        isplitl [H4]
        · iexists f4; isplitr; · ipureintro; rfl
          iexact H4
        isplitl [H5]
        · iexists f5; isplitr; · ipureintro; rfl
          iexact H5
        isplitl [H6]
        · iexists f6; isplitr; · ipureintro; rfl
          iexact H6
        isplitl [H7]
        · iexists _; isplitr; · ipureintro; exact harg8.read_unread _
          iexact H7
        isplitl [H8]
        · iexists _; isplitr; · ipureintro; exact harg9.read_unread _
          iexact H8
        isplitl [H9]
        · iexists _; isplitr; · ipureintro; exact harg10.read_unread _
          iexact H9
        isplitl [H10]
        · iexists _; isplitr; · ipureintro; exact harg11.read_unread _
          iexact H10
        isplitl [H11]
        · iexists _; isplitr; · ipureintro; exact harg12.read_unread _
          iexact H11
        isplitl [H12]
        · iexists _; isplitr; · ipureintro; exact harg13.read_unread _
          iexact H12
        isplitl [H13]
        · iexists f13; isplitr; · ipureintro; rfl
          iexact H13
        isplitl [H14]
        · iexists f14; isplitr; · ipureintro; rfl
          iexact H14
        isplitl [H15]
        · iexists _; isplitr; · ipureintro; exact harg16.read_unread _
          iexact H15
        isplitl [H16]
        · iexists _; isplitr; · ipureintro; exact harg17.read_unread _
          iexact H16
        isplitl [H17]
        · iexists _; isplitr; · ipureintro; exact harg18.read_unread _
          iexact H17
        isplitl [H18]
        · iexists _; isplitr; · ipureintro; exact harg19.read_unread _
          iexact H18
        isplitl [H19]
        · iexists _; isplitr; · ipureintro; exact harg20.read_unread _
          iexact H19
        isplitl [H20]
        · iexists _; isplitr; swap; · iexact H20
          ipureintro; refine (View.read_writes_eq_canon _ _ _ (cover20 _)).trans ?_
          rfl
        isplitl [H21]
        · iexists _; isplitr; swap; · iexact H21
          ipureintro; refine (View.read_writes_eq_canon _ _ _ (coverH _ _)).trans ?_
          rfl
        isplitl [H22]
        · iexists _; isplitr; swap; · iexact H22
          ipureintro; refine (View.read_writes_eq_canon _ _ _ (coverH _ _)).trans ?_
          rfl
        isplitl [H23]
        · iexists _; isplitr; swap; · iexact H23
          ipureintro; refine (View.read_writes_eq_canon _ _ _ (coverH _ _)).trans ?_
          rfl
        isplitl [H24]
        · iexists _, _; isplitr; swap; · iexact H24
          ipureintro; rfl
        isplitl [H25]
        · iexists _, _; isplitr; swap; · iexact H25
          ipureintro; rfl
        isplitl [H26]
        · iexists _, _; isplitr; swap; · iexact H26
          ipureintro; rfl
        isplitl [H27]
        · iexists _, _; isplitr; swap; · iexact H27
          ipureintro; rfl
        isplitl [H28]
        · iexists _, _; isplitr; swap; · iexact H28
          ipureintro; rfl
        isplitl [H29]
        · iexists _, _; isplitr; swap; · iexact H29
          ipureintro; rfl
        isplitl [H30]
        · iexists _; isplitr; swap; · iexact H30
          ipureintro; refine (View.read_writes_eq_canon _ _ _ (coverV _ _ _ _)).trans ?_
          clear * -
          (try simp only [odd_v0, odd_v1, odd_v2, odd_v3])
          rfl
        isplitl [HS0]
        · iexists _; isplitr; swap
          · iexists _; isplitr; swap; · iexact HS0
            ipureintro; rfl
          ipureintro; intro hh
          first | exact absurd hh hc1 | exact (readTop _ _ _ _)
        iexists _; isplitr; swap
        · iexists _; isplitr; swap; · iexact HS1
          ipureintro; rfl
        ipureintro; intro hh
        first | exact absurd hh hc2 | (simp only [odd_mix]; exact (readTop _ _ _ _))

end Cert.FuseIdeal

end
-- ==== Proof.FuseIdeal.Frame.lean ====
/- The frame of the layer's projection call: the pipeline's proof data, the body at any point of the grid, the launch. -/
module

public import proofs.«01_k».proof.Proof.FuseIdeal.Run
public import Idealize.ShloMosaic.Lib.Pointwise

@[expose] public section

set_option maxRecDepth 16384

noncomputable section

namespace Cert.FuseIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows of which nothing is stated. -/
def forgets0 : Fin 31 → Bool := fun w => w.val == 24 || w.val == 25 || w.val == 26 || w.val == 27 || w.val == 28 || w.val == 29

theorem forgets0_20 : forgets0 20 = false := rfl
theorem forgets0_21 : forgets0 21 = false := rfl
theorem forgets0_22 : forgets0 22 = false := rfl
theorem forgets0_23 : forgets0 23 = false := rfl
theorem forgets0_30 : forgets0 30 = false := rfl

/-- The point before. -/
def prev (t : Fin cfg0.N) : Fin cfg0.N := ⟨t.val - 1, lt_of_le_of_lt (Nat.sub_le _ _) t.isLt⟩

/-- What point `t` leaves in its chunk of the scratch it writes. -/
def mixAt (c : Dev nD) (t : Fin cfg0.N) : Vec F S512x256 .f32 := mixB (iblk m c 0 t) (iblk m c 1 t) (iblk m c 2 t) (iblk m c 3 t) (iblk m c 4 t) (iblk m c 6 t)

/-- The columns that the later stages read, of a chunk. -/
def firstHalf (w : Vec F S512x256 .f32) : Vec F S512x128 .f32 := fun y => w (ix2 ⟨y 0, (y 0).isLt⟩ ⟨y 1, lt_trans (y 1).isLt (by decide)⟩)

theorem ld_firstHalf (s : Vec F S512x2560 .f32) : View.ld s ckvR = firstHalf (View.ld s mixR) := by
  funext y
  unfold firstHalf
  refine congrArg s (funext fun a => Fin.ext ?_)
  match a with
  | ⟨0, _⟩ => rfl
  | ⟨1, _⟩ => rfl

/-- What the later stages of point `t` read of the scratch: the point before left it; at the first point it is the zeros stored there. -/
def zIn (c : Dev nD) (t : Fin cfg0.N) : Vec F S512x128 .f32 :=
  if t.val = 0 then scM0_1.view.readCov [⟨wholeZ, k0_pay1 (F := F)⟩] ckvR.toLoadRect else firstHalf (mixAt m c (prev t))

/-- What is known of the two scratch buffers before point `n`: the one the point before wrote holds that point's chunk. -/
def Carry (c : Dev nD) (n : ℕ) (s0 s1 : Vec F S512x2560 .f32) : Prop :=
  ∀ u : Fin cfg0.N, u.val + 1 = n → View.ld (if u.val % 2 = 0 then s0 else s1) mixR = mixAt m c u

/-- The invariant: the two scratch buffers, of which `Carry` is known, and the generator register. -/
def Inv (c : Dev nD) (n : ℕ) : sProp 𝕄 :=
  iprop((∃ s0 s1, ⌜Carry m c n s0 s1⌝ ∗ owns (c : Thread nD τ) scM0_0 fullShare s0 ∗ owns (c : Thread nD τ) scM0_1 fullShare s1) ∗ (∃ r, prngReg c r))

/-- The proof data of the one pipeline on core `c`: the arrays as the region finds them (`V`); after the body at
    point `t` each input's buffer at its block and each output stated of at its named block, the others at `Dat.unnamed`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => xoB (iblk m c 0 t) (iblk m c 1 t) (iblk m c 2 t) (iblk m c 3 t)
    | ⟨21, _⟩ => gvB (iblk m c 0 t) (iblk m c 1 t) (iblk m c 2 t) (iblk m c 3 t) (iblk m c 4 t) (iblk m c 5 t)
    | ⟨22, _⟩ => ggB (iblk m c 0 t) (iblk m c 1 t) (iblk m c 2 t) (iblk m c 3 t) (iblk m c 4 t) (iblk m c 5 t)
    | ⟨23, _⟩ => mgB (iblk m c 0 t) (iblk m c 1 t) (iblk m c 2 t) (iblk m c 3 t) (iblk m c 4 t) (iblk m c 5 t)
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨28, h⟩ => Pipeline.Dat.unnamed (cfg := cfg0) ⟨28, h⟩ t
    | ⟨29, h⟩ => Pipeline.Dat.unnamed (cfg := cfg0) ⟨29, h⟩ t
    | ⟨30, _⟩ => vB (zIn m c t) (iblk m c 13 t) (iblk m c 14 t)
    | ⟨_ + 31, h⟩ => absurd h (Nat.not_lt.2 (Nat.le_add_left _ _))
  Φ t := Inv m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = xoB (iblk m c 0 t) (iblk m c 1 t) (iblk m c 2 t) (iblk m c 3 t) := by dsimp only [dats]
theorem after0_21 (c : Dev nD) (t : Fin cfg0.N) : (dats m 0 c).after 21 t = gvB (iblk m c 0 t) (iblk m c 1 t) (iblk m c 2 t) (iblk m c 3 t) (iblk m c 4 t) (iblk m c 5 t) := by dsimp only [dats]
theorem after0_22 (c : Dev nD) (t : Fin cfg0.N) : (dats m 0 c).after 22 t = ggB (iblk m c 0 t) (iblk m c 1 t) (iblk m c 2 t) (iblk m c 3 t) (iblk m c 4 t) (iblk m c 5 t) := by dsimp only [dats]
theorem after0_23 (c : Dev nD) (t : Fin cfg0.N) : (dats m 0 c).after 23 t = mgB (iblk m c 0 t) (iblk m c 1 t) (iblk m c 2 t) (iblk m c 3 t) (iblk m c 4 t) (iblk m c 5 t) := by dsimp only [dats]
theorem after0_30 (c : Dev nD) (t : Fin cfg0.N) : (dats m 0 c).after 30 t = vB (zIn m c t) (iblk m c 13 t) (iblk m c 14 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

theorem liveAt0_20 : ∀ t : Fin cfg0.N, cfg0.idle 20 (grid0.coords t) = false :=
  (by decide +kernel : ∀ t : Fin grid0.N, idle0 20 (grid0.coords t) = false)
theorem liveAt0_21 : ∀ t : Fin cfg0.N, cfg0.idle 21 (grid0.coords t) = false :=
  (by decide +kernel : ∀ t : Fin grid0.N, idle0 21 (grid0.coords t) = false)
theorem liveAt0_22 : ∀ t : Fin cfg0.N, cfg0.idle 22 (grid0.coords t) = false :=
  (by decide +kernel : ∀ t : Fin grid0.N, idle0 22 (grid0.coords t) = false)
theorem liveAt0_23 : ∀ t : Fin cfg0.N, cfg0.idle 23 (grid0.coords t) = false :=
  (by decide +kernel : ∀ t : Fin grid0.N, idle0 23 (grid0.coords t) = false)
theorem liveAt0_30 : ∀ t : Fin cfg0.N, cfg0.idle 30 (grid0.coords t) = false :=
  (by decide +kernel : ∀ t : Fin grid0.N, idle0 30 (grid0.coords t) = false)

/-- What the body hands back of a buffer, window by window. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
theorem leaves0_17 (c : Dev nD) (t : Fin cfg0.N) : (dats m 0 c).leavesExact 17 t = owns (c : Thread nD τ) (ms0_17 t) fullShare (iblk m c 17 t) := by
  unfold Dat.leavesExact; rw [liveAt0_17 t, after0_17]
theorem leaves0_18 (c : Dev nD) (t : Fin cfg0.N) : (dats m 0 c).leavesExact 18 t = owns (c : Thread nD τ) (ms0_18 t) fullShare (iblk m c 18 t) := by
  unfold Dat.leavesExact; rw [liveAt0_18 t, after0_18]
theorem leaves0_19 (c : Dev nD) (t : Fin cfg0.N) : (dats m 0 c).leavesExact 19 t = owns (c : Thread nD τ) (ms0_19 t) fullShare (iblk m c 19 t) := by
  unfold Dat.leavesExact; rw [liveAt0_19 t, after0_19]
theorem leaves0_20 (c : Dev nD) (t : Fin cfg0.N) : (dats m 0 c).leavesExact 20 t = owns (c : Thread nD τ) (ms0_20 t) fullShare (xoB (iblk m c 0 t) (iblk m c 1 t) (iblk m c 2 t) (iblk m c 3 t)) := by
  unfold Dat.leavesExact; rw [liveAt0_20 t, after0_20]
theorem leaves0_21 (c : Dev nD) (t : Fin cfg0.N) : (dats m 0 c).leavesExact 21 t = owns (c : Thread nD τ) (ms0_21 t) fullShare (gvB (iblk m c 0 t) (iblk m c 1 t) (iblk m c 2 t) (iblk m c 3 t) (iblk m c 4 t) (iblk m c 5 t)) := by
  unfold Dat.leavesExact; rw [liveAt0_21 t, after0_21]
theorem leaves0_22 (c : Dev nD) (t : Fin cfg0.N) : (dats m 0 c).leavesExact 22 t = owns (c : Thread nD τ) (ms0_22 t) fullShare (ggB (iblk m c 0 t) (iblk m c 1 t) (iblk m c 2 t) (iblk m c 3 t) (iblk m c 4 t) (iblk m c 5 t)) := by
  unfold Dat.leavesExact; rw [liveAt0_22 t, after0_22]
theorem leaves0_23 (c : Dev nD) (t : Fin cfg0.N) : (dats m 0 c).leavesExact 23 t = owns (c : Thread nD τ) (ms0_23 t) fullShare (mgB (iblk m c 0 t) (iblk m c 1 t) (iblk m c 2 t) (iblk m c 3 t) (iblk m c 4 t) (iblk m c 5 t)) := by
  unfold Dat.leavesExact; rw [liveAt0_23 t, after0_23]
theorem leaves0_30 (c : Dev nD) (t : Fin cfg0.N) : (dats m 0 c).leavesExact 30 t = owns (c : Thread nD τ) (ms0_30 t) fullShare (vB (zIn m c t) (iblk m c 13 t) (iblk m c 14 t)) := by
  unfold Dat.leavesExact; rw [liveAt0_30 t, after0_30]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (dats m 0 c).leavesExact 30 t)

set_option maxHeartbeats 9600000 in
/-- The body at any point: the inputs' buffers hold their blocks, the point is in one of the run's cases by arithmetic, the
    invariant lends the body its scratch and takes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_30]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  have hN : t.val < 33 := lt_of_lt_of_eq t.isLt (show cfg0.N = 33 from N_0)
  iintro ⟨⟨⟨%s0, %s1, %hC, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  have hc : (cond0_0 (grid0.coords t) ∧ cond0_1 (grid0.coords t) ∧ ¬ cond0_2 (grid0.coords t) ∧ zIn m c t = scM0_1.view.readCov [⟨wholeZ, k0_pay1 (F := F)⟩] ckvR.toLoadRect)
      ∨ (¬ cond0_0 (grid0.coords t) ∧ cond0_1 (grid0.coords t) ∧ ¬ cond0_2 (grid0.coords t) ∧ zIn m c t = View.ld s1 ckvR)
      ∨ (¬ cond0_0 (grid0.coords t) ∧ ¬ cond0_1 (grid0.coords t) ∧ cond0_2 (grid0.coords t) ∧ zIn m c t = View.ld s0 ckvR) := by
    rw [hcond0_0 t, hcond0_1 t, hcond0_2 t]
    by_cases h0 : t.val = 0
    · exact Or.inl ⟨by omega, by omega, by omega, if_pos h0⟩
    have hp : (prev t).val + 1 = t.val := by simp only [prev]; omega
    have hz : zIn m c t = firstHalf (mixAt m c (prev t)) := if_neg h0
    have hk := hC (prev t) hp
    by_cases he : t.val % 2 = 0
    · rw [if_neg (by omega)] at hk
      exact Or.inr (Or.inl ⟨by omega, by omega, by omega, by rw [hz, ld_firstHalf, hk]⟩)
    · rw [if_pos (by omega)] at hk
      exact Or.inr (Or.inr ⟨by omega, by omega, by omega, by rw [hz, ld_firstHalf, hk]⟩)
  iapply ((kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ s0 s1 (zIn m c t) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, H30, ⟨%e0, %he0, HS0⟩, ⟨%e1, %he1, HS1⟩⟩
  isplitl [HS0 HS1 Hg]
  · isplitl [HS0 HS1]
    · iexists e0, e1
      isplitr
      · ipureintro
        intro u hu
        obtain rfl : u = t := Fin.ext (by omega)
        by_cases he : u.val % 2 = 0
        · rw [if_pos he]; exact he0 ((hcond0_1 u).2 he)
        · rw [if_neg he]; exact he1 ((hcond0_2 u).2 (by omega))
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The invariant at the ends of the run. -/
theorem inv_first (c : Dev nD) : Pipeline.ΦA spec0 c ⊢ Inv m c 0 := by
  rw [PhiA0_eq]
  unfold Inv
  iintro ⟨⟨⟨%d0, H0⟩, ⟨%d1, H1⟩⟩, Hg⟩
  isplitl [H0 H1]
  · iexists d0, d1
    isplitr
    · ipureintro
      intro u hu
      exact absurd hu (Nat.succ_ne_zero _)
    isplitl [H0]
    · iexact H0
    iexact H1
  iexact Hg

theorem inv_last (c : Dev nD) (n : ℕ) : Inv m c n ⊢ Pipeline.ΦA spec0 c := by
  rw [PhiA0_eq]
  unfold Inv
  iintro ⟨⟨%s0, %s1, %hC, H0, H1⟩, Hg⟩
  isplitl [H0 H1]
  · isplitl [H0]
    · iexists s0
      iexact H0
    iexists s1
    iexact H1
  iexact Hg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option maxHeartbeats 1860000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel2Ideal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

-- `θ_run_frame_track_forget`'s implicit arguments are found by unifying its conclusion with this one, which takes unfolding plain
-- definitions in a metavariable's type
set_option backward.isDefEq.respectTransparency.types false in
set_option maxHeartbeats 4000000 in
/-- `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (inv_first m) (fun c => inv_last m c _)

/-- At the compiled mesh, for any values, from any memory with zero counters: every weakly fair execution of @main on the
    TensorCores terminates, and every final state has every INPUT array of the pipeline unchanged, the five results at what the proof data names, nothing stated of the
    FORGOTTEN outputs (windows 24 to 29) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A result's array after the run, read off the run's post at any window it states. -/
theorem final_of (r) (h : Pipeline.RDat.FramePost (cfgs 0) (fun c => (dats m 0 c).toRForget forgets0) (V m) r) (c : Dev nD)
    (w : Fin 31) (hw : forgets0 w = false) :
    r.2.mem ((cfg0.spec w).arr.view.loc (c.tc : Thread nD τ)) = (dats m 0 c).arrAt w cfg0.N :=
  ((dats m 0 c).toRForget_arrAt_iff hw _ _).mp ((h c).1 w)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.FuseIdeal

end
-- ==== Proof.FuseIdeal.Tile.lean ====
/- One block of the layer's projection call, read at an index: the residual stream after the output projection, its norm, and the
   columns of the next layer's input projection, row by row. -/
module

public import proofs.«01_k».proof.Proof.FuseIdeal.Base
public import Idealize.ShloMosaic.Lib.Pointwise
public import Idealize.ShloMosaic.Lib.Pipeline.ValueKit

@[expose] public section

set_option maxRecDepth 16384

noncomputable section

namespace Cert.FuseIdeal

open Idealize.ShloMosaic Idealize.ShloMosaic.TcCoe Idealize.SL.Sem
open Cert.Kernel2Ideal Cert.Kernel2Ideal.Gen

/-- A row of the residual stream after the output projection: the row `x` before, plus the two halves `a`, `b` of the mixers'
    outputs times the weight `w`. -/
def rowSum (x : Fin 1024 → EReal) (a b : Fin 512 → EReal) (w : Fin 1024 → Fin 1024 → EReal) (n : Fin 1024) : EReal :=
  x n + (∑ k : Fin 512, a k * w ⟨k, by omega⟩ n) + ∑ k : Fin 512, b k * w ⟨512 + (k : ℕ), by omega⟩ n

/-- A row over the root of its mean square, times the weight `g`. -/
def rowNorm (z g : Fin 1024 → EReal) (n : Fin 1024) : EReal :=
  z n * Ideal.rsqrt (Ideal.div (∑ k : Fin 1024, z k * z k) (Ideal.ofBits .f32 0x44800000#32) + Ideal.ofBits .f32 0x358637BD#32) * g n

/-- A row times a column. -/
def rowDot (h u : Fin 1024 → EReal) : EReal := ∑ k : Fin 1024, h k * u k

def silu (x : EReal) : EReal := x * Ideal.div 1 (1 + Ideal.exp (-x))

theorem pay4_at (x : Vec Ideal S512x1024 .f32) (w : Vec Ideal S1x1024x1024 .bf16) (a b : Vec Ideal S512x512 .bf16) (r : Fin 512)
    (n : Fin 1024) : k0_pay4 (F := Ideal) x w a b (ix2 r n)
      = rowSum (fun n => x (ix2 r n)) (fun k => a (ix2 r k)) (fun k => b (ix2 r k)) (fun k n => w (ix3 0 k n)) n := by
  pointwise [k0_pay4, rowSum]

theorem pay5_at (x : Vec Ideal S512x1024 .f32) (w : Vec Ideal S1x1024x1024 .bf16) (a b : Vec Ideal S512x512 .bf16)
    (g : Vec Ideal S1x1x1024 .f32) (r : Fin 512) (n : Fin 1024) : k0_pay5 (F := Ideal) x w a b g (ix2 r n)
      = rowNorm (fun n => k0_pay4 (F := Ideal) x w a b (ix2 r n)) (fun n => g (ix3 0 0 n)) n := by
  pointwise [k0_pay5, rowNorm]

theorem pay11_at (h : FVec Ideal S512x1024 .bf16) (u : Vec Ideal S1x256x1024 .bf16) (r : Fin 512) (c : Fin 256) :
    k0_pay11 (F := Ideal) h u (ix2 r c) = rowDot (fun k => h (ix2 r k)) (fun k => u (ix3 0 c k)) := by
  pointwise [k0_pay11, rowDot]
theorem pay12_at (h : FVec Ideal S512x1024 .bf16) (u : Vec Ideal S1x256x1024 .bf16) (r : Fin 512) (c : Fin 256) :
    k0_pay12 (F := Ideal) h u (ix2 r c) = rowDot (fun k => h (ix2 r k)) (fun k => u (ix3 0 c k)) := by
  pointwise [k0_pay12, rowDot]
theorem pay13_at (h : FVec Ideal S512x1024 .bf16) (u : Vec Ideal S1x256x1024 .bf16) (r : Fin 512) (c : Fin 256) :
    k0_pay13 (F := Ideal) h u (ix2 r c) = silu (rowDot (fun k => h (ix2 r k)) (fun k => u (ix3 0 c k))) := by
  pointwise [k0_pay13, rowDot, silu]
  rfl
theorem pay14_at (h : FVec Ideal S512x1024 .bf16) (u : Vec Ideal S1x256x1024 .bf16) (r : Fin 512) (c : Fin 256) :
    k0_pay14 (F := Ideal) h u (ix2 r c) = silu (rowDot (fun k => h (ix2 r k)) (fun k => u (ix3 0 c k))) := by
  pointwise [k0_pay14, rowDot, silu]
  rfl
theorem pay15_at (h : FVec Ideal S512x1024 .bf16) (u : Vec Ideal S1x256x1024 .bf16) (r : Fin 512) (c : Fin 256) :
    k0_pay15 (F := Ideal) h u (ix2 r c) = silu (rowDot (fun k => h (ix2 r k)) (fun k => u (ix3 0 c k))) := by
  pointwise [k0_pay15, rowDot, silu]
  rfl
theorem pay44_at (h : FVec Ideal S512x1024 .bf16) (u : Vec Ideal S1x256x1024 .bf16) (r : Fin 512) (c : Fin 256) :
    k0_pay44 (F := Ideal) h u (ix2 r c) = silu (rowDot (fun k => h (ix2 r k)) (fun k => u (ix3 0 c k))) := by
  pointwise [k0_pay44, rowDot, silu]
  rfl

/-- The row the call computes from its blocks, and its norm. -/
def sumRow (x0 : Vec Ideal S512x1024 .f32) (x1 x2 : Vec Ideal S512x512 .bf16) (x3 : Vec Ideal S1x1024x1024 .bf16) (r : Fin 512) :
    Fin 1024 → EReal :=
  rowSum (fun n => x0 (ix2 r n)) (fun k => x1 (ix2 r k)) (fun k => x2 (ix2 r k)) (fun k n => x3 (ix3 0 k n))
def normRow (x0 : Vec Ideal S512x1024 .f32) (x1 x2 : Vec Ideal S512x512 .bf16) (x3 : Vec Ideal S1x1024x1024 .bf16)
    (x4 : Vec Ideal S1x1x1024 .f32) (r : Fin 512) : Fin 1024 → EReal :=
  rowNorm (sumRow x0 x1 x2 x3 r) (fun n => x4 (ix3 0 0 n))

theorem xoV_at (x0 : Vec Ideal S512x1024 .f32) (x1 x2 : Vec Ideal S512x512 .bf16) (x3 : Vec Ideal S1x1024x1024 .bf16) (r : Fin 512)
    (n : Fin 1024) : xoV (F := Ideal) x0 x1 x2 x3 (ix2 r n) = sumRow x0 x1 x2 x3 r n := by
  unfold xoV
  rw [pay4_at]
  pointwise [sumRow, rowSum]

theorem hV_at (x0 : Vec Ideal S512x1024 .f32) (x1 x2 : Vec Ideal S512x512 .bf16) (x3 : Vec Ideal S1x1024x1024 .bf16)
    (x4 : Vec Ideal S1x1x1024 .f32) (r : Fin 512) (n : Fin 1024) :
    hV (F := Ideal) x0 x1 x2 x3 x4 (ix2 r n) = normRow x0 x1 x2 x3 x4 r n := by
  unfold hV normRow
  rw [pay5_at]
  have e : (fun n => k0_pay4 (F := Ideal) (View.ld x0 whole) (View.ld x3 wholeW) (View.ld x1 wholeH) (View.ld x2 wholeH) (ix2 r n))
      = sumRow x0 x1 x2 x3 r := funext fun n => xoV_at x0 x1 x2 x3 r n
  rw [e]
  refine congrArg (fun g => rowNorm _ g n) (funext fun n => ?_)
  pointwise

theorem xo_at (x0 : Vec Ideal S512x1024 .f32) (x1 x2 : Vec Ideal S512x512 .bf16) (x3 : Vec Ideal S1x1024x1024 .bf16)
    (y : S512x1024.Idx) : xoB (F := Ideal) x0 x1 x2 x3 y = sumRow x0 x1 x2 x3 ⟨y 0, (y 0).isLt⟩ ⟨y 1, (y 1).isLt⟩ := by
  have t : ∀ x : S512x1024.Idx, (y 0 : ℕ) = x 0 → (y 1 : ℕ) = x 1 →
      xoV (F := Ideal) x0 x1 x2 x3 x = sumRow x0 x1 x2 x3 ⟨y 0, (y 0).isLt⟩ ⟨y 1, (y 1).isLt⟩ := by
    intro x e0 e1
    rw [eq_ix2 x]
    refine (xoV_at ..).trans ?_
    refine congrArg₂ (sumRow x0 x1 x2 x3) (Fin.ext e0.symm) (Fin.ext e1.symm)
  unfold xoB
  canon_tiles x h
  exact t x (by omega) (by omega)

/-- A result block stored in two halves is one function of its index. -/
theorem half_at (p q : FVec Ideal S512x256 .bf16) (f : Fin 512 → Fin 512 → EReal)
    (hp : ∀ (r : Fin 512) (c : Fin 256), p (ix2 r c) = f r ⟨c, by omega⟩)
    (hq : ∀ (r : Fin 512) (c : Fin 256), q (ix2 r c) = f r ⟨256 + (c : ℕ), by omega⟩) (y : S512x512.Idx) :
    View.canon (Val := Elt Ideal) (e := .bf16) [⟨right, q⟩, ⟨left, p⟩] y = f ⟨y 0, (y 0).isLt⟩ ⟨y 1, (y 1).isLt⟩ := by
  have tp : ∀ x : S512x256.Idx, (y 0 : ℕ) = x 0 → (y 1 : ℕ) = x 1 → p x = f ⟨y 0, (y 0).isLt⟩ ⟨y 1, (y 1).isLt⟩ := by
    intro x e0 e1
    rw [eq_ix2 x]
    exact (hp _ _).trans (congrArg₂ f (Fin.ext e0.symm) (Fin.ext e1.symm))
  have tq : ∀ x : S512x256.Idx, (y 0 : ℕ) = x 0 → (y 1 : ℕ) = 256 + x 1 → q x = f ⟨y 0, (y 0).isLt⟩ ⟨y 1, (y 1).isLt⟩ := by
    intro x e0 e1
    rw [eq_ix2 x]
    exact (hq _ _).trans (congrArg₂ f (Fin.ext e0.symm) (Fin.ext e1.symm))
  canon_tiles x h
  case piece0 => exact tq x (by omega) (by omega)
  case piece1 => exact tp x (by omega) (by omega)

/-- Column `n + c` of the next layer's input projection, from the blocks. -/
def col (x0 : Vec Ideal S512x1024 .f32) (x1 x2 : Vec Ideal S512x512 .bf16) (x3 : Vec Ideal S1x1024x1024 .bf16)
    (x4 : Vec Ideal S1x1x1024 .f32) (x5 : Vec Ideal S1x2512x1024 .bf16) (n : Fin 2001) (r c : Fin 512) : EReal :=
  rowDot (normRow x0 x1 x2 x3 x4 r) fun k => x5 (ix3 0 ⟨(n : ℕ) + c, by omega⟩ k)

/-- The same from the norm as the call stores it and the rows `u` of the weight that one chunk reads. -/
theorem col_of (x0 : Vec Ideal S512x1024 .f32) (x1 x2 : Vec Ideal S512x512 .bf16) (x3 : Vec Ideal S1x1024x1024 .bf16)
    (x4 : Vec Ideal S1x1x1024 .f32) (x5 : Vec Ideal S1x2512x1024 .bf16) (n : Fin 2001) (r c : Fin 512) (d : Fin 256) (u : Vec Ideal S1x256x1024 .bf16)
    (hu : ∀ k, u (ix3 0 d k) = x5 (ix3 0 ⟨(n : ℕ) + c, by omega⟩ k)) :
    rowDot (fun k => hV (F := Ideal) x0 x1 x2 x3 x4 (ix2 r k)) (fun k => u (ix3 0 d k)) = col x0 x1 x2 x3 x4 x5 n r c := by
  unfold col
  exact congrArg₂ rowDot (funext fun k => hV_at ..) (funext hu)

/-- The rows a chunk reads. -/
theorem rows_at (x5 : Vec Ideal S1x2512x1024 .bf16) (o : ℕ) (h : ∀ a, (![0, o, 0] : Fin 3 → ℕ) a + S1x256x1024.size a ≤ S1x2512x1024.size a)
    (n : ℕ) (c : ℕ) (d : Fin 256) (hn : n + c < 2512) (e : o + d = n + c) (k : Fin 1024) :
    View.ld x5 (Rect.unit (s := S1x2512x1024) ![0, o, 0] S1x256x1024.size h) (ix3 0 d k) = x5 (ix3 0 ⟨n + c, hn⟩ k) := by
  pointwise
  simp only [e]

theorem gv_at (x0 : Vec Ideal S512x1024 .f32) (x1 x2 : Vec Ideal S512x512 .bf16) (x3 : Vec Ideal S1x1024x1024 .bf16)
    (x4 : Vec Ideal S1x1x1024 .f32) (x5 : Vec Ideal S1x2512x1024 .bf16) (y : S512x512.Idx) :
    gvB (F := Ideal) x0 x1 x2 x3 x4 x5 y
      = col x0 x1 x2 x3 x4 x5 512 ⟨y 0, (y 0).isLt⟩ ⟨y 1, (y 1).isLt⟩ :=
  half_at _ _ (fun r c => col x0 x1 x2 x3 x4 x5 512 r c)
    (fun r c => (pay11_at ..).trans ((col_of x0 x1 x2 x3 x4 x5 512 r ⟨c, by omega⟩ c _ (rows_at x5 512 _ 512 _ c (by omega) (by first | rfl | (simp only []; omega))))))
    (fun r c => (pay12_at ..).trans ((col_of x0 x1 x2 x3 x4 x5 512 r ⟨256 + (c : ℕ), by omega⟩ c _ (rows_at x5 768 _ 512 _ c (by omega) (by first | rfl | (simp only []; omega)))))) y

theorem gg_at (x0 : Vec Ideal S512x1024 .f32) (x1 x2 : Vec Ideal S512x512 .bf16) (x3 : Vec Ideal S1x1024x1024 .bf16)
    (x4 : Vec Ideal S1x1x1024 .f32) (x5 : Vec Ideal S1x2512x1024 .bf16) (y : S512x512.Idx) :
    ggB (F := Ideal) x0 x1 x2 x3 x4 x5 y
      = silu (col x0 x1 x2 x3 x4 x5 1040 ⟨y 0, (y 0).isLt⟩ ⟨y 1, (y 1).isLt⟩) :=
  half_at _ _ (fun r c => silu (col x0 x1 x2 x3 x4 x5 1040 r c))
    (fun r c => (pay13_at ..).trans (congrArg silu (col_of x0 x1 x2 x3 x4 x5 1040 r ⟨c, by omega⟩ c _ (rows_at x5 1040 _ 1040 _ c (by omega) (by first | rfl | (simp only []; omega))))))
    (fun r c => (pay14_at ..).trans (congrArg silu (col_of x0 x1 x2 x3 x4 x5 1040 r ⟨256 + (c : ℕ), by omega⟩ c _ (rows_at x5 1296 _ 1040 _ c (by omega) (by first | rfl | (simp only []; omega)))))) y

theorem mg_at (x0 : Vec Ideal S512x1024 .f32) (x1 x2 : Vec Ideal S512x512 .bf16) (x3 : Vec Ideal S1x1024x1024 .bf16)
    (x4 : Vec Ideal S1x1x1024 .f32) (x5 : Vec Ideal S1x2512x1024 .bf16) (y : S512x512.Idx) :
    mgB (F := Ideal) x0 x1 x2 x3 x4 x5 y
      = silu (col x0 x1 x2 x3 x4 x5 2000 ⟨y 0, (y 0).isLt⟩ ⟨y 1, (y 1).isLt⟩) :=
  half_at _ _ (fun r c => silu (col x0 x1 x2 x3 x4 x5 2000 r c))
    (fun r c => (pay15_at ..).trans (congrArg silu (col_of x0 x1 x2 x3 x4 x5 2000 r ⟨c, by omega⟩ c _ (rows_at x5 2000 _ 2000 _ c (by omega) (by first | rfl | (simp only []; omega))))))
    (fun r c => (pay44_at ..).trans (congrArg silu (col_of x0 x1 x2 x3 x4 x5 2000 r ⟨256 + (c : ℕ), by omega⟩ c _ (rows_at x5 2256 _ 2000 _ c (by omega) (by first | rfl | (simp only []; omega)))))) y

end Cert.FuseIdeal

end
-- ==== Proof.FuseIdeal.Host.lean ====
/- The arrays the layer's projection call is given, from the arguments: the weights as the host prepares them. -/
module

public import proofs.«01_k».proof.Proof.FuseIdeal.Base
public import Idealize.ShloMosaic.Lib.Pointwise
public import Idealize.ShloMosaic.Lib.StableHlo.RunRead

@[expose] public section

set_option maxRecDepth 16384

noncomputable section

namespace Cert.FuseIdeal

open Idealize.ShloMosaic Idealize.ShloMosaic.TcCoe Idealize.SL.Sem
open Cert.Kernel2Ideal Cert.Kernel2Ideal.Gen

variable (m : (ℓ : Loc nD τ sig) → Buf (Elt Ideal) ℓ)

/-- The output projection's weight, cast. -/
theorem V_wout (c : Dev nD) :
    V m c main_v39 = (truncf .bf16 (m ((c : Thread nD τ).loc main_arg14) : FVec Ideal S4x1024x1024 .f32) bitsLt_bf16_f32 : FVec Ideal S4x1024x1024 .bf16) := by
  unfold V
  simp only [List.flatten_cons, List.flatten_nil, List.append_nil]
  after_reads_simp

/-- The norms' weights, with a unit axis. -/
theorem V_norm (c : Dev nD) :
    V m c main_v25 = broadcastInDim S4x1x1024 ![0, 2] bcast_S4x1024_S4x1x1024_0_2 (m ((c : Thread nD τ).loc main_arg4)) := by
  unfold V
  simp only [List.flatten_cons, List.flatten_nil, List.append_nil]
  after_reads_simp

/-- The input projections' weight, transposed and cast. -/
theorem V_win (c : Dev nD) :
    V m c main_v1 = truncf .bf16 (transpose S4x2512x1024 [0, 2, 1] (m ((c : Thread nD τ).loc main_arg5) : FVec Ideal S4x1024x2512 .f32)
      transposes_S4x1024x2512_S4x2512x1024_0_2_1 : FVec Ideal S4x2512x1024 .f32) bitsLt_bf16_f32 := by
  unfold V
  simp only [List.flatten_cons, List.flatten_nil, List.append_nil]
  after_reads_simp

end Cert.FuseIdeal

end
-- ==== Proof.FuseIdeal.Array.lean ====
/- Four results of the layer's projection call as functions of its arguments. -/
module

public import proofs.«01_k».proof.Proof.FuseIdeal.Tile
public import proofs.«01_k».proof.Proof.FuseIdeal.Host
public import proofs.«01_k».proof.Proof.FuseIdeal.Frame

@[expose] public section

set_option maxRecDepth 16384

noncomputable section

namespace Cert.FuseIdeal

open Idealize.ShloMosaic Idealize.ShloMosaic.TcCoe Idealize.SL.Sem
open Cert.Kernel2Ideal Cert.Kernel2Ideal.Gen

/-- Row `r` of the residual stream after layer 0's output projection. -/
def resid (X : FVec Ideal S16384x1024 .f32) (A B : FVec Ideal S16384x512 .bf16) (W : FVec Ideal S4x1024x1024 .f32) (r : Fin 16384) :
    Fin 1024 → EReal :=
  rowSum (fun n => X (ix2 r n)) (fun k => A (ix2 r k)) (fun k => B (ix2 r k)) (fun k n => W (ix3 0 k n))

/-- Its norm, with layer 1's weight. -/
def normed (X : FVec Ideal S16384x1024 .f32) (A B : FVec Ideal S16384x512 .bf16) (G : FVec Ideal S4x1024 .f32)
    (W : FVec Ideal S4x1024x1024 .f32) (r : Fin 16384) : Fin 1024 → EReal :=
  rowNorm (resid X A B W r) fun n => G (ix2 1 n)

/-- Column `n + c` of layer 1's input projection. -/
def proj (X : FVec Ideal S16384x1024 .f32) (A B : FVec Ideal S16384x512 .bf16) (G : FVec Ideal S4x1024 .f32)
    (U : FVec Ideal S4x1024x2512 .f32) (W : FVec Ideal S4x1024x1024 .f32) (n : Fin 2001) (r : Fin 16384) (c : Fin 512) : EReal :=
  rowDot (normed X A B G W r) fun k => U (ix3 1 k ⟨(n : ℕ) + c, by omega⟩)

variable (m : (ℓ : Loc nD τ sig) → Buf (Elt Ideal) ℓ)

theorem idx : ∀ t : Fin cfg0.N, win0_0.index t = ![min t.val 31, 0] ∧ win0_1.index t = ![min t.val 31, 0]
    ∧ win0_2.index t = ![min t.val 31, 0] ∧ win0_3.index t = ![0, 0, 0]
    ∧ win0_4.index t = ![1, 0, 0] ∧ win0_5.index t = ![1, 0, 0] ∧ win0_20.index t = ![min t.val 31, 0]
    ∧ win0_21.index t = ![min t.val 31, 0] ∧ win0_22.index t = ![min t.val 31, 0] ∧ win0_23.index t = ![min t.val 31, 0] :=
  (by decide +kernel : ∀ t : Fin grid0.N, _)

/-- Row `r` of the rows that grid point `t` works on. -/
def row (t : Fin cfg0.N) (r : Fin 512) : Fin 16384 := ⟨min t.val 31 * 512 + r, by omega⟩

theorem blk0_at (c : Dev nD) (t : Fin cfg0.N) (r : Fin 512) (n : Fin 1024) :
    iblk m c 0 t (ix2 r n) = (m ((c : Thread nD τ).loc main_arg0) : FVec Ideal S16384x1024 .f32) (ix2 (row t r) n) := by
  blk_point [iblk, V_main_arg0, idx t, row]

theorem blk3_at (c : Dev nD) (t : Fin cfg0.N) (k n : Fin 1024) :
    iblk m c 3 t (ix3 0 k n) = (m ((c : Thread nD τ).loc main_arg14) : FVec Ideal S4x1024x1024 .f32) (ix3 0 k n) := by
  blk_point [iblk, V_wout, idx t]

theorem blk1_at (c : Dev nD) (t : Fin cfg0.N) (r k : Fin 512) :
    iblk m c 1 t (ix2 r k) = (m ((c : Thread nD τ).loc main_arg1) : FVec Ideal S16384x512 .bf16) (ix2 (row t r) k) := by
  blk_point [iblk, V_main_arg1, idx t, row]

theorem blk2_at (c : Dev nD) (t : Fin cfg0.N) (r k : Fin 512) :
    iblk m c 2 t (ix2 r k) = (m ((c : Thread nD τ).loc main_arg2) : FVec Ideal S16384x512 .bf16) (ix2 (row t r) k) := by
  blk_point [iblk, V_main_arg2, idx t, row]

theorem blk4_at (c : Dev nD) (t : Fin cfg0.N) (n : Fin 1024) :
    iblk m c 4 t (ix3 0 0 n) = (m ((c : Thread nD τ).loc main_arg4) : FVec Ideal S4x1024 .f32) (ix2 1 n) := by
  have e : iblk m c 4 t (ix3 0 0 n) = (V m c main_v25 : FVec Ideal S4x1x1024 .f32) (ix3 1 0 n) := by
    blk_point [iblk, idx t]
  rw [e, V_norm]
  pointwise

theorem blk5_at (c : Dev nD) (t : Fin cfg0.N) (k : Fin 1024) (n : Fin 2512) :
    iblk m c 5 t (ix3 0 n k) = (m ((c : Thread nD τ).loc main_arg5) : FVec Ideal S4x1024x2512 .f32) (ix3 1 k n) := by
  have e : iblk m c 5 t (ix3 0 n k) = (V m c main_v1 : FVec Ideal S4x2512x1024 .bf16) (ix3 1 n k) := by
    blk_point [iblk, idx t]
  rw [e, V_win]
  pointwise

/-- The blocks' rows are the arrays' rows. -/
theorem sumRow_eq (c : Dev nD) (t : Fin cfg0.N) (r : Fin 512) :
    sumRow (iblk m c 0 t) (iblk m c 1 t) (iblk m c 2 t) (iblk m c 3 t) r
      = resid (m ((c : Thread nD τ).loc main_arg0)) (m ((c : Thread nD τ).loc main_arg1)) (m ((c : Thread nD τ).loc main_arg2))
        (m ((c : Thread nD τ).loc main_arg14)) (row t r) := by
  funext n
  unfold sumRow resid rowSum
  simp only [blk0_at, blk1_at, blk2_at, blk3_at]

theorem normRow_eq (c : Dev nD) (t : Fin cfg0.N) (r : Fin 512) :
    normRow (iblk m c 0 t) (iblk m c 1 t) (iblk m c 2 t) (iblk m c 3 t) (iblk m c 4 t) r
      = normed (m ((c : Thread nD τ).loc main_arg0)) (m ((c : Thread nD τ).loc main_arg1)) (m ((c : Thread nD τ).loc main_arg2))
        (m ((c : Thread nD τ).loc main_arg4)) (m ((c : Thread nD τ).loc main_arg14)) (row t r) := by
  unfold normRow normed
  rw [sumRow_eq]
  exact congrArg (rowNorm _) (funext fun n => blk4_at m c t n)

theorem col_eq (c : Dev nD) (t : Fin cfg0.N) (n : Fin 2001) (r k : Fin 512) :
    col (iblk m c 0 t) (iblk m c 1 t) (iblk m c 2 t) (iblk m c 3 t) (iblk m c 4 t) (iblk m c 5 t) n r k
      = proj (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg14)) n (row t r) k := by
  unfold col proj
  rw [normRow_eq]
  exact congrArg (rowDot _) (funext fun j => blk5_at m c t j _)

/-- Four results: the residual stream; the values; the two gates. -/
def xo (X : FVec Ideal S16384x1024 .f32) (A B : FVec Ideal S16384x512 .bf16) (W : FVec Ideal S4x1024x1024 .f32) :
    FVec Ideal S16384x1024 .f32 := fun j => resid X A B W (j 0) (j 1)
def gv (X : FVec Ideal S16384x1024 .f32) (A B : FVec Ideal S16384x512 .bf16) (G : FVec Ideal S4x1024 .f32)
    (U : FVec Ideal S4x1024x2512 .f32) (W : FVec Ideal S4x1024x1024 .f32) : FVec Ideal S16384x512 .bf16 :=
  fun j => proj X A B G U W 512 (j 0) (j 1)
def gg (X : FVec Ideal S16384x1024 .f32) (A B : FVec Ideal S16384x512 .bf16) (G : FVec Ideal S4x1024 .f32)
    (U : FVec Ideal S4x1024x2512 .f32) (W : FVec Ideal S4x1024x1024 .f32) : FVec Ideal S16384x512 .bf16 :=
  fun j => silu (proj X A B G U W 1040 (j 0) (j 1))
def mg (X : FVec Ideal S16384x1024 .f32) (A B : FVec Ideal S16384x512 .bf16) (G : FVec Ideal S4x1024 .f32)
    (U : FVec Ideal S4x1024x2512 .f32) (W : FVec Ideal S4x1024x1024 .f32) : FVec Ideal S16384x512 .bf16 :=
  fun j => silu (proj X A B G U W 2000 (j 0) (j 1))

theorem final_xo (c : Dev nD) : (dats m 0 c).arrAt 20 cfg0.N
    = xo (m ((c : Thread nD τ).loc main_arg0)) (m ((c : Thread nD τ).loc main_arg1)) (m ((c : Thread nD τ).loc main_arg2))
      (m ((c : Thread nD τ).loc main_arg14)) := by
  refine (dats m 0 c).arrAt_eq_of_covers 20 _ (by decide +kernel) fun t _ y => ?_
  have hy0 : (y 0 : ℕ) < 512 := (y 0).isLt
  have hy1 : (y 1 : ℕ) < 1024 := (y 1).isLt
  blk_simp
  rw [after0_20]
  refine (xo_at _ _ _ _ y).trans ?_
  rw [sumRow_eq]
  unfold xo
  blk_point [idx t, row]

theorem final_gv (c : Dev nD) : (dats m 0 c).arrAt 21 cfg0.N
    = gv (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg14)) := by
  refine (dats m 0 c).arrAt_eq_of_covers 21 _ (by decide +kernel) fun t _ y => ?_
  have hy0 : (y 0 : ℕ) < 512 := (y 0).isLt
  have hy1 : (y 1 : ℕ) < 512 := (y 1).isLt
  blk_simp
  rw [after0_21]
  refine (gv_at _ _ _ _ _ _ y).trans ?_
  rw [col_eq]
  unfold gv
  blk_point [idx t, row]

theorem final_gg (c : Dev nD) : (dats m 0 c).arrAt 22 cfg0.N
    = gg (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg14)) := by
  refine (dats m 0 c).arrAt_eq_of_covers 22 _ (by decide +kernel) fun t _ y => ?_
  have hy0 : (y 0 : ℕ) < 512 := (y 0).isLt
  have hy1 : (y 1 : ℕ) < 512 := (y 1).isLt
  blk_simp
  rw [after0_22]
  refine (gg_at _ _ _ _ _ _ y).trans ?_
  rw [col_eq]
  unfold gg
  blk_point [idx t, row]

theorem final_mg (c : Dev nD) : (dats m 0 c).arrAt 23 cfg0.N
    = mg (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg14)) := by
  refine (dats m 0 c).arrAt_eq_of_covers 23 _ (by decide +kernel) fun t _ y => ?_
  have hy0 : (y 0 : ℕ) < 512 := (y 0).isLt
  have hy1 : (y 1 : ℕ) < 512 := (y 1).isLt
  blk_simp
  rw [after0_23]
  refine (mg_at _ _ _ _ _ _ y).trans ?_
  rw [col_eq]
  unfold mg
  blk_point [idx t, row]

end Cert.FuseIdeal

end
-- ==== Proof.Latent.lean ====
/- The attention's key and value latent: 128 numbers of a token, normed and multiplied by a column of the weight. -/
module

public import Idealize.ShloMosaic.Lib.Pointwise

@[expose] public section

noncomputable section

namespace Cert

open Idealize.ShloMosaic

/-- The latent `z` over the root of its mean square, times the weight `g`. -/
def latNorm (z g : Fin 128 → EReal) (n : Fin 128) : EReal :=
  z n * Ideal.rsqrt (Ideal.div (∑ k : Fin 128, z k * z k) (Ideal.ofBits .f32 0x43000000#32) + Ideal.ofBits .f32 0x358637BD#32) * g n

/-- The latent times a column. -/
def latDot (h u : Fin 128 → EReal) : EReal := ∑ k : Fin 128, h k * u k

end Cert

end
-- ==== Proof.FuseIdeal.Vals.lean ====
/- The attention's values, a result of the layer's projection call, as a function of its arguments. What a grid point writes of
   them it computes from the columns that the point before left in the scratch, so its block is that of the rows before. -/
module

public import proofs.«01_k».proof.Proof.FuseIdeal.Array
public import proofs.«01_k».proof.Proof.Latent

@[expose] public section

set_option maxRecDepth 16384

noncomputable section

namespace Cert.FuseIdeal

open Idealize.ShloMosaic Idealize.ShloMosaic.TcCoe Idealize.SL.Sem
open Cert.Kernel2Ideal Cert.Kernel2Ideal.Gen

/-! ## One block -/

theorem pay49_at (h : FVec Ideal S512x1024 .bf16) (u : Vec Ideal S1x256x1024 .bf16) (r : Fin 512) (c : Fin 256) :
    k0_pay49 (F := Ideal) h u (ix2 r c) = rowDot (fun k => h (ix2 r k)) (fun k => u (ix3 0 c k)) := by
  pointwise [k0_pay49, rowDot]

/-- A chunk's column. -/
theorem mix_at (x0 : Vec Ideal S512x1024 .f32) (x1 x2 : Vec Ideal S512x512 .bf16) (x3 : Vec Ideal S1x1024x1024 .bf16)
    (x4 : Vec Ideal S1x1x1024 .f32) (x6 : Vec Ideal S1x256x1024 .bf16) (r : Fin 512) (c : Fin 256) :
    mixB (F := Ideal) x0 x1 x2 x3 x4 x6 (ix2 r c) = rowDot (normRow x0 x1 x2 x3 x4 r) (fun k => x6 (ix3 0 c k)) := by
  unfold mixB
  rw [pay49_at]
  refine congrArg₂ rowDot (funext fun k => hV_at ..) (funext fun k => ?_)
  pointwise

theorem pay10_at (z : Vec Ideal S512x128 .f32) (g : Vec Ideal S1x1x128 .f32) (u : Vec Ideal S1x128x1024 .bf16) (r : Fin 512) (n : Fin 1024) :
    k0_pay10 (F := Ideal) (k0_pay9 (F := Ideal) z g) u (ix2 r n)
      = latDot (latNorm (fun k => z (ix2 r k)) (fun k => g (ix3 0 0 k))) (fun k => u (ix3 0 k n)) := by
  pointwise [k0_pay10, k0_pay9, latDot, latNorm]

theorem kv_at (z : Vec Ideal S512x128 .f32) (g : Vec Ideal S1x1x128 .f32) (u : Vec Ideal S1x128x1024 .bf16) (r : Fin 512) (n : Fin 1024) :
    kvV (F := Ideal) z g u (ix2 r n)
      = latDot (latNorm (fun k => z (ix2 r k)) (fun k => g (ix3 0 0 k))) (fun k => u (ix3 0 k n)) := by
  unfold kvV
  rw [pay10_at]
  refine congrArg₂ latDot (congrArg (latNorm _) (funext fun k => ?_)) (funext fun k => ?_)
  · pointwise
  · pointwise

theorem pay95_at (a : FVec Ideal S512x1024 .f32) (r : Fin 512) (d : Fin 128) :
    k0_pay95 (F := Ideal) a (ix4 0 0 r d) = a (ix2 r ⟨512 + (d : ℕ), by omega⟩) := by
  pointwise [k0_pay95]
theorem pay102_at (a : FVec Ideal S512x1024 .f32) (r : Fin 512) (d : Fin 128) :
    k0_pay102 (F := Ideal) a (ix4 0 0 r d) = a (ix2 r ⟨640 + (d : ℕ), by omega⟩) := by
  pointwise [k0_pay102]
theorem pay108_at (a : FVec Ideal S512x1024 .f32) (r : Fin 512) (d : Fin 128) :
    k0_pay108 (F := Ideal) a (ix4 0 0 r d) = a (ix2 r ⟨768 + (d : ℕ), by omega⟩) := by
  pointwise [k0_pay108]
theorem pay2_at (a : FVec Ideal S512x1024 .f32) (r : Fin 512) (d : Fin 128) :
    k0_pay2 (F := Ideal) (k0_pay114 (F := Ideal) a) (ix4 0 0 r d) = a (ix2 r ⟨896 + (d : ℕ), by omega⟩) := by
  pointwise [k0_pay2, k0_pay114]

/-- A block stored head by head is one function of its index. -/
theorem heads_at (p0 p1 p2 p3 : FVec Ideal S1x1x512x128 .bf16) (f : Fin 512 → Fin 1024 → EReal)
    (g0 : ∀ (r : Fin 512) (d : Fin 128), p0 (ix4 0 0 r d) = f r ⟨512 + (d : ℕ), by omega⟩)
    (g1 : ∀ (r : Fin 512) (d : Fin 128), p1 (ix4 0 0 r d) = f r ⟨640 + (d : ℕ), by omega⟩)
    (g2 : ∀ (r : Fin 512) (d : Fin 128), p2 (ix4 0 0 r d) = f r ⟨768 + (d : ℕ), by omega⟩)
    (g3 : ∀ (r : Fin 512) (d : Fin 128), p3 (ix4 0 0 r d) = f r ⟨896 + (d : ℕ), by omega⟩) (y : S1x4x512x128.Idx)
    (n : Fin 1024) (hn : (n : ℕ) = 512 + 128 * y 1 + y 3) :
    View.canon (Val := Elt Ideal) (e := .bf16) [⟨head3, p3⟩, ⟨head2, p2⟩, ⟨head1, p1⟩, ⟨head0, p0⟩] y = f ⟨y 2, (y 2).isLt⟩ n := by
  have t : ∀ (p : FVec Ideal S1x1x512x128 .bf16) (k : ℕ) (hk : k < 4)
      (h : ∀ (r : Fin 512) (d : Fin 128), p (ix4 0 0 r d) = f r ⟨512 + 128 * k + (d : ℕ), by omega⟩) (x : S1x1x512x128.Idx),
      (y 1 : ℕ) = k → (y 2 : ℕ) = x 2 → (y 3 : ℕ) = x 3 → p x = f ⟨y 2, (y 2).isLt⟩ n := by
    intro p k hk h x e1 e2 e3
    have ex : x = ix4 0 0 (x 2) (x 3) := by
      refine (eq_ix4 x).trans ?_
      have a0 : x 0 = (0 : Fin 1) := Subsingleton.elim (α := Fin 1) _ _
      have a1 : x 1 = (0 : Fin 1) := Subsingleton.elim (α := Fin 1) _ _
      rw [a0, a1]
      rfl
    rw [ex]
    exact (h _ _).trans (congrArg₂ f (Fin.ext e2.symm) (Fin.ext (by rw [hn, e1, e3])))
  canon_tiles x h
  case piece0 => exact t p3 3 (by omega) g3 x (by omega) (by omega) (by omega)
  case piece1 => exact t p2 2 (by omega) g2 x (by omega) (by omega) (by omega)
  case piece2 => exact t p1 1 (by omega) g1 x (by omega) (by omega) (by omega)
  case piece3 => exact t p0 0 (by omega) g0 x (by omega) (by omega) (by omega)

theorem v_at (z : Vec Ideal S512x128 .f32) (g : Vec Ideal S1x1x128 .f32) (u : Vec Ideal S1x128x1024 .bf16) (y : S1x4x512x128.Idx)
    (n : Fin 1024) (hn : (n : ℕ) = 512 + 128 * y 1 + y 3) :
    vB (F := Ideal) z g u y
      = latDot (latNorm (fun k => z (ix2 ⟨y 2, (y 2).isLt⟩ k)) (fun k => g (ix3 0 0 k))) (fun k => u (ix3 0 k n)) :=
  (heads_at _ _ _ _ (fun r n => kvV (F := Ideal) z g u (ix2 r n)) (pay95_at _) (pay102_at _) (pay108_at _) (pay2_at _) y n hn).trans
    (kv_at z g u _ n)

/-! ## The arrays -/

variable (m : (ℓ : Loc nD τ sig) → Buf (Elt Ideal) ℓ)

/-- The rows of the input projections' weight that the chunk reads: the latent's first. -/
theorem V_mix (c : Dev nD) (k : Fin 1024) (n : Fin 128) :
    (V m c main_v5 : FVec Ideal S4x256x1024 .bf16) (ix3 1 ⟨n, by omega⟩ k)
      = (m ((c : Thread nD τ).loc main_arg5) : FVec Ideal S4x1024x2512 .f32) (ix3 1 k ⟨1808 + (n : ℕ), by omega⟩) := by
  unfold V
  simp only [List.flatten_cons, List.flatten_nil, List.append_nil]
  after_reads_simp
  pointwise
  rw [dif_pos (by omega)]
  after_reads_simp
  pointwise

/-- The columns of the latent's weight that make the values, head by head, follow those that make the keys. -/
theorem V_ukv (c : Dev nD) (k : Fin 128) (h : Fin 4) (d : Fin 128) :
    (V m c main_v23 : FVec Ideal S4x128x1024 .bf16) (ix3 1 k ⟨512 + 128 * (h : ℕ) + d, by omega⟩)
      = (m ((c : Thread nD τ).loc main_arg11) : FVec Ideal S4x128x1024 .f32) (ix3 1 k ⟨256 * (h : ℕ) + 128 + d, by omega⟩) := by
  unfold V
  simp only [List.flatten_cons, List.flatten_nil, List.append_nil]
  after_reads_simp
  pointwise
  rw [dif_neg (by omega)]
  after_reads_simp
  pointwise
  have e : (512 + 128 * (h : ℕ) + d - 512) / 128 * 256 + (128 + (512 + 128 * (h : ℕ) + d - 512) % 128) = 256 * h + 128 + d := by omega
  simp only [e]

/-- The latent norm's weight, with a unit axis. -/
theorem V_lat (c : Dev nD) :
    V m c main_v28 = broadcastInDim S4x1x128 ![0, 2] bcast_S4x128_S4x1x128_0_2 (m ((c : Thread nD τ).loc main_arg10)) := by
  unfold V
  simp only [List.flatten_cons, List.flatten_nil, List.append_nil]
  after_reads_simp

/-- Column `k` of the latent of row `r`. -/
def lat (X : FVec Ideal S16384x1024 .f32) (A B : FVec Ideal S16384x512 .bf16) (G : FVec Ideal S4x1024 .f32) (U : FVec Ideal S4x1024x2512 .f32)
    (O : FVec Ideal S4x1024x1024 .f32) (r : Fin 16384) (k : Fin 128) : EReal :=
  rowDot (normed X A B G O r) fun n => U (ix3 1 n ⟨1808 + (k : ℕ), by omega⟩)

/-- The values: row `s` of sequence `b`, head `h`. -/
def vals (X : FVec Ideal S16384x1024 .f32) (A B : FVec Ideal S16384x512 .bf16) (G : FVec Ideal S4x1024 .f32) (U : FVec Ideal S4x1024x2512 .f32)
    (O : FVec Ideal S4x1024x1024 .f32) (N : FVec Ideal S4x128 .f32)
    (W : FVec Ideal S4x128x1024 .f32) (b : Fin 4) (h : Fin 4) (s : Fin 4096) (d : Fin 128) : EReal :=
  latDot (latNorm (lat X A B G U O ⟨4096 * (b : ℕ) + s, by omega⟩) fun k => N (ix2 1 k))
    fun k => W (ix3 1 k ⟨256 * (h : ℕ) + 128 + d, by omega⟩)

def vv (X : FVec Ideal S16384x1024 .f32) (A B : FVec Ideal S16384x512 .bf16) (G : FVec Ideal S4x1024 .f32) (U : FVec Ideal S4x1024x2512 .f32)
    (O : FVec Ideal S4x1024x1024 .f32) (N : FVec Ideal S4x128 .f32)
    (W : FVec Ideal S4x128x1024 .f32) : FVec Ideal S4x4x4096x128 .bf16 :=
  fun j => vals X A B G U O N W (j 0) (j 1) (j 2) (j 3)

theorem idxV : ∀ t : Fin cfg0.N, win0_6.index t = ![1, 0, 0] ∧ win0_13.index t = ![1, 0, 0] ∧ win0_14.index t = ![1, 0, 0]
    ∧ win0_30.index t = ![(t.val - 1) / 8, 0, (t.val - 1) % 8, 0] :=
  (by decide +kernel : ∀ t : Fin grid0.N, _)

/-- The first point writes no block of the values back. -/
theorem flush_pos : ∀ t : Fin cfg0.N, (cfg0.win 30).flush t = true → t.val ≠ 0 :=
  (by decide +kernel : ∀ t : Fin grid0.N, (cfg0.win 30).flush t = true → t.val ≠ 0)

theorem blk6_at (c : Dev nD) (t : Fin cfg0.N) (k : Fin 1024) (n : Fin 128) :
    iblk m c 6 t (ix3 0 ⟨n, by omega⟩ k) = (m ((c : Thread nD τ).loc main_arg5) : FVec Ideal S4x1024x2512 .f32) (ix3 1 k ⟨1808 + (n : ℕ), by omega⟩) := by
  have e : iblk m c 6 t (ix3 0 ⟨n, by omega⟩ k) = (V m c main_v5 : FVec Ideal S4x256x1024 .bf16) (ix3 1 ⟨n, by omega⟩ k) := by
    blk_point [iblk, idxV t]
  rw [e, V_mix]

theorem blk13_at (c : Dev nD) (t : Fin cfg0.N) (k : Fin 128) :
    iblk m c 13 t (ix3 0 0 k) = (m ((c : Thread nD τ).loc main_arg10) : FVec Ideal S4x128 .f32) (ix2 1 k) := by
  have e : iblk m c 13 t (ix3 0 0 k) = (V m c main_v28 : FVec Ideal S4x1x128 .f32) (ix3 1 0 k) := by
    blk_point [iblk, idxV t]
  rw [e, V_lat]
  pointwise

theorem blk14_at (c : Dev nD) (t : Fin cfg0.N) (k : Fin 128) (h : Fin 4) (d : Fin 128) :
    iblk m c 14 t (ix3 0 k ⟨512 + 128 * (h : ℕ) + d, by omega⟩)
      = (m ((c : Thread nD τ).loc main_arg11) : FVec Ideal S4x128x1024 .f32) (ix3 1 k ⟨256 * (h : ℕ) + 128 + d, by omega⟩) := by
  have e : iblk m c 14 t (ix3 0 k ⟨512 + 128 * (h : ℕ) + d, by omega⟩)
      = (V m c main_v23 : FVec Ideal S4x128x1024 .bf16) (ix3 1 k ⟨512 + 128 * (h : ℕ) + d, by omega⟩) := by
    blk_point [iblk, idxV t]
  rw [e, V_ukv]

/-- What a point past the first reads of the scratch: the latent of the rows of the point before. -/
theorem zIn_at (c : Dev nD) (t : Fin cfg0.N) (ht : t.val ≠ 0) (r : Fin 512) (k : Fin 128) :
    zIn m c t (ix2 r k) = lat (m ((c : Thread nD τ).loc main_arg0)) (m ((c : Thread nD τ).loc main_arg1)) (m ((c : Thread nD τ).loc main_arg2)) (m ((c : Thread nD τ).loc main_arg4)) (m ((c : Thread nD τ).loc main_arg5))
      (m ((c : Thread nD τ).loc main_arg14))
      (row (prev t) r) k := by
  have e : zIn m c t (ix2 r k) = mixAt m c (prev t) (ix2 r ⟨k, by omega⟩) := by
    unfold zIn
    rw [if_neg ht]
    rfl
  rw [e]
  unfold mixAt lat
  rw [mix_at, normRow_eq]
  exact congrArg (rowDot _) (funext fun n => blk6_at m c (prev t) n k)

theorem final_v (c : Dev nD) : (dats m 0 c).arrAt 30 cfg0.N
    = vv (m ((c : Thread nD τ).loc main_arg0)) (m ((c : Thread nD τ).loc main_arg1)) (m ((c : Thread nD τ).loc main_arg2)) (m ((c : Thread nD τ).loc main_arg4)) (m ((c : Thread nD τ).loc main_arg5))
      (m ((c : Thread nD τ).loc main_arg14))
      (m ((c : Thread nD τ).loc main_arg10)) (m ((c : Thread nD τ).loc main_arg11)) := by
  refine (dats m 0 c).arrAt_eq_of_covers 30 _ (by decide +kernel) fun t hf y => ?_
  have ht : t.val ≠ 0 := flush_pos t hf
  have hN : t.val < 33 := t.isLt
  have hy0 : (y 0 : ℕ) < 1 := (y 0).isLt
  have hy1 : (y 1 : ℕ) < 4 := (y 1).isLt
  have hy2 : (y 2 : ℕ) < 512 := (y 2).isLt
  have hy3 : (y 3 : ℕ) < 128 := (y 3).isLt
  blk_simp
  rw [after0_30]
  refine (v_at _ _ _ y ⟨512 + 128 * (⟨y 1, hy1⟩ : Fin 4) + (⟨y 3, hy3⟩ : Fin 128), by omega⟩ rfl).trans ?_
  have e1 : (fun k => zIn m c t (ix2 ⟨y 2, (y 2).isLt⟩ k)) = lat (m ((c : Thread nD τ).loc main_arg0)) (m ((c : Thread nD τ).loc main_arg1)) (m ((c : Thread nD τ).loc main_arg2)) (m ((c : Thread nD τ).loc main_arg4))
      (m ((c : Thread nD τ).loc main_arg5)) (m ((c : Thread nD τ).loc main_arg14)) (row (prev t) ⟨y 2, (y 2).isLt⟩) := funext fun k => zIn_at m c t ht _ k
  have e2 : (fun k => iblk m c 13 t (ix3 0 0 k)) = fun k => (m ((c : Thread nD τ).loc main_arg10) : FVec Ideal S4x128 .f32) (ix2 1 k) :=
    funext fun k => blk13_at m c t k
  have e3 : (fun k => iblk m c 14 t (ix3 0 k ⟨512 + 128 * (⟨y 1, hy1⟩ : Fin 4) + (⟨y 3, hy3⟩ : Fin 128), by omega⟩))
      = fun k => (m ((c : Thread nD τ).loc main_arg11) : FVec Ideal S4x128x1024 .f32) (ix3 1 k ⟨256 * ((⟨y 1, hy1⟩ : Fin 4) : ℕ) + 128 + (⟨y 3, hy3⟩ : Fin 128), by omega⟩) :=
    funext fun k => blk14_at m c t k ⟨y 1, hy1⟩ ⟨y 3, hy3⟩
  refine (congrArg₂ latDot (congrArg₂ latNorm e1 e2) e3).trans ?_
  unfold vv vals
  refine congrArg₂ latDot (congrArg (fun z => latNorm z _) (congrArg (lat _ _ _ _ _ _) (Fin.ext ?_))) (funext fun k => congrArg _ (congrArg (ix3 1 k) (Fin.ext ?_)))
  · simp only [row, prev]
    blk_simp [idxV t]
    omega
  · blk_simp [idxV t]

end Cert.FuseIdeal

end
-- ==== Proof.FuseIdeal.RefValue.lean ====
/- The reference's five results at an index: the same functions of the arguments. -/
module

public import proofs.«01_k».proof.Proof.FuseIdeal.Vals
public import proofs.«01_k».proof.Proof.Gen.Reference2Ideal.Read

@[expose] public section

set_option maxRecDepth 16384

noncomputable section

namespace Cert.FuseIdeal

open Idealize.ShloMosaic Idealize.ShloMosaic.TcCoe Idealize.SL.Sem
open Cert.Reference2Ideal Cert.Reference2Ideal.Gen Cert.Reference2Ideal.Read

variable (X : FVec Ideal S16384x1024 .f32) (A B : FVec Ideal S16384x512 .bf16) (G : FVec Ideal S4x1024 .f32)
  (U : FVec Ideal S4x1024x2512 .f32) (W : FVec Ideal S4x1024x1024 .f32)

/-- The mixers' outputs side by side. -/
theorem cat_left (r : Fin 16384) (k : Fin 512) : val_main_v0 (F := Ideal) A B (ix2 r ⟨k, by omega⟩) = A (ix2 r k) := by
  pointwise [val_main_v0]
theorem cat_right (r : Fin 16384) (k : Fin 512) : val_main_v0 (F := Ideal) A B (ix2 r ⟨512 + (k : ℕ), by omega⟩) = B (ix2 r k) := by
  pointwise [val_main_v0]

theorem ref_sum (r : Fin 16384) (n : Fin 1024) : val_main_v5 (F := Ideal) X A B W (ix2 r n) = resid X A B W r n := by
  have e : val_main_v5 (F := Ideal) X A B W (ix2 r n)
      = X (ix2 r n) + ∑ k : Fin 1024, val_main_v0 (F := Ideal) A B (ix2 r k) * W (ix3 0 k n) := by
    pointwise [val_main_v5, val_main_v4, val_main_v1, val_main_v3, val_main_v2]
  rw [e, Fin.sum_univ_two_halves 512 512 rfl]
  unfold resid rowSum
  rw [add_assoc]
  refine congrArg _ (congrArg₂ (· + ·) (Finset.sum_congr rfl fun k _ => ?_) (Finset.sum_congr rfl fun k _ => ?_))
  · exact congrArg (· * _) (cat_left A B r k)
  · exact congrArg (· * _) (cat_right A B r k)

theorem ref_norm (r : Fin 16384) (n : Fin 1024) : val_main_v20 (F := Ideal) X A B G W (ix2 r n) = normed X A B G W r n := by
  have e : val_main_v20 (F := Ideal) X A B G W (ix2 r n)
      = rowNorm (fun n => val_main_v5 (F := Ideal) X A B W (ix2 r n)) (fun n => G (ix2 1 n)) n := by
    pointwise [val_main_v20, val_main_v19, val_main_v18, val_main_v17, val_main_v16, val_main_v15, val_main_v14, val_main_v13,
      val_main_v12, val_main_v11, val_main_v10, val_main_v9, val_main_v8, val_main_v7, val_main_v6, val_main_cst, val_main_cst_0,
      val_main_cst_1, rowNorm]
  rw [e]
  unfold normed
  exact congrArg (fun z => rowNorm z _ n) (funext fun k => ref_sum X A B W r k)

theorem ref_proj (r : Fin 16384) (n : Fin 2512) : val_main_v23 (F := Ideal) X A B G U W (ix2 r n)
    = rowDot (normed X A B G W r) fun k => U (ix3 1 k n) := by
  have e : val_main_v23 (F := Ideal) X A B G U W (ix2 r n)
      = rowDot (fun k => val_main_v20 (F := Ideal) X A B G W (ix2 r k)) fun k => U (ix3 1 k n) := by
    pointwise [val_main_v23, val_main_v22, val_main_v21, rowDot]
  rw [e]
  exact congrArg (rowDot · _) (funext fun k => ref_norm X A B G W r k)

theorem ref_xo : val_main_v5 (F := Ideal) X A B W = xo X A B W := by
  funext j
  rw [eq_ix2 j]
  exact ref_sum X A B W _ _

theorem ref_gv : val_main_v49 (F := Ideal) X A B G U W = gv X A B G U W := by
  funext j
  rw [eq_ix2 j]
  have e : ∀ (r : Fin 16384) (c : Fin 512), val_main_v49 (F := Ideal) X A B G U W (ix2 r c)
      = val_main_v23 (F := Ideal) X A B G U W (ix2 r ⟨512 + (c : ℕ), by omega⟩) := fun r c => by
    pointwise [val_main_v49, val_main_v24]
  exact (e _ _).trans (ref_proj X A B G U W _ _)

theorem ref_gg : val_main_v51 (F := Ideal) X A B G U W = gg X A B G U W := by
  funext j
  rw [eq_ix2 j]
  have e : ∀ (r : Fin 16384) (c : Fin 512), val_main_v51 (F := Ideal) X A B G U W (ix2 r c)
      = silu (val_main_v23 (F := Ideal) X A B G U W (ix2 r ⟨1040 + (c : ℕ), by omega⟩)) := fun r c => by
    pointwise [val_main_v51, val_main_v50, val_main_v25, val_main_call0_v5, val_main_call0_v4, val_main_call0_v3, val_main_call0_v2,
      val_main_call0_v1, val_main_call0_v0, val_main_call0_cst, val_main_call0_cst_0, silu]
  exact (e _ _).trans (congrArg silu (ref_proj X A B G U W _ _))

theorem ref_mg : val_main_v53 (F := Ideal) X A B G U W = mg X A B G U W := by
  funext j
  rw [eq_ix2 j]
  have e : ∀ (r : Fin 16384) (c : Fin 512), val_main_v53 (F := Ideal) X A B G U W (ix2 r c)
      = silu (val_main_v23 (F := Ideal) X A B G U W (ix2 r ⟨2000 + (c : ℕ), by omega⟩)) := fun r c => by
    pointwise [val_main_v53, val_main_v52, val_main_v26, val_main_call1_v5, val_main_call1_v4, val_main_call1_v3, val_main_call1_v2,
      val_main_call1_v1, val_main_call1_v0, val_main_call1_cst, val_main_call1_cst_0, silu]
  exact (e _ _).trans (congrArg silu (ref_proj X A B G U W _ _))
variable (N : FVec Ideal S4x128 .f32) (V : FVec Ideal S4x128x1024 .f32)

theorem ref_lat (r : Fin 16384) (k : Fin 128) : val_main_v27 (F := Ideal) X A B G U W (ix2 r k) = lat X A B G U W r k := by
  have e : val_main_v27 (F := Ideal) X A B G U W (ix2 r k) = val_main_v23 (F := Ideal) X A B G U W (ix2 r ⟨1808 + (k : ℕ), by omega⟩) := by
    pointwise [val_main_v27]
  exact e.trans (ref_proj X A B G U W _ _)

theorem ref_latNorm (r : Fin 16384) (k : Fin 128) : val_main_v42 (F := Ideal) X A B G U N W (ix2 r k)
    = latNorm (lat X A B G U W r) (fun k => N (ix2 1 k)) k := by
  have e : val_main_v42 (F := Ideal) X A B G U N W (ix2 r k)
      = latNorm (fun k => val_main_v27 (F := Ideal) X A B G U W (ix2 r k)) (fun k => N (ix2 1 k)) k := by
    pointwise [val_main_v42, val_main_v41, val_main_v40, val_main_v39, val_main_v38, val_main_v37, val_main_v36, val_main_v35, val_main_v34, val_main_v33, val_main_v32, val_main_v31, val_main_v30, val_main_v29, val_main_v28, val_main_cst_2, val_main_cst_3,
      val_main_cst_4, latNorm]
  rw [e]
  exact congrArg (fun z => latNorm z _ k) (funext fun k => ref_lat X A B G U W r k)

theorem ref_kv (r : Fin 16384) (n : Fin 1024) : val_main_v45 (F := Ideal) X A B G U N V W (ix2 r n)
    = latDot (latNorm (lat X A B G U W r) fun k => N (ix2 1 k)) fun k => V (ix3 1 k n) := by
  have e : val_main_v45 (F := Ideal) X A B G U N V W (ix2 r n)
      = latDot (fun k => val_main_v42 (F := Ideal) X A B G U N W (ix2 r k)) fun k => V (ix3 1 k n) := by
    pointwise [val_main_v45, val_main_v44, val_main_v43, latDot]
  rw [e]
  exact congrArg (latDot · _) (funext fun k => ref_latNorm X A B G U W N r k)

theorem ref_v : val_main_v54 (F := Ideal) X A B G U N V W = vv X A B G U W N V := by
  funext j
  rw [eq_ix4 j]
  have e : ∀ (b h : Fin 4) (s : Fin 4096) (d : Fin 128), val_main_v54 (F := Ideal) X A B G U N V W (ix4 b h s d)
      = val_main_v45 (F := Ideal) X A B G U N V W (ix2 ⟨4096 * (b : ℕ) + s, by omega⟩ ⟨256 * (h : ℕ) + 128 + d, by omega⟩) := fun b h s d => by
    pointwise [val_main_v54, val_main_v48, val_main_v47, val_main_v46]
    refine congrArg₂ (fun r n => val_main_v45 (F := Ideal) X A B G U N V W (ix2 r n)) (Fin.ext ?_) (Fin.ext ?_)
    · simp only []
      omega
    · simp only []
      omega
  exact (e _ _ _ _).trans (ref_kv X A B G U W N V _ _)

end Cert.FuseIdeal

end
-- ==== Proof.Last.lean ====
/- The output projection after the last layer: the call's result as one function of its arguments, and the reference's. -/
module

public import proofs.«01_k».proof.Proof.FuseIdeal.Tile
public import proofs.«01_k».proof.Proof.Gen.Kernel3Ideal.Value
public import proofs.«01_k».proof.Proof.Gen.Reference3Ideal.Read
public import Idealize.ShloMosaic.Lib.StableHlo.RunRead

@[expose] public section

set_option maxRecDepth 16384

noncomputable section

namespace Cert.Last

open Idealize.ShloMosaic Idealize.ShloMosaic.TcCoe Idealize.SL.Sem
open Cert.FuseIdeal (rowSum)

/-- Row `r` of the residual stream after the last layer's output projection. -/
def resid (X : FVec Ideal Cert.Kernel3Ideal.S16384x1024 .f32) (A B : FVec Ideal Cert.Kernel3Ideal.S16384x512 .bf16)
    (W : FVec Ideal Cert.Kernel3Ideal.S4x1024x1024 .f32) (r : Fin 16384) : Fin 1024 → EReal :=
  rowSum (fun n => X (ix2 r n)) (fun k => A (ix2 r k)) (fun k => B (ix2 r k)) (fun k n => W (ix3 3 k n))

/-- The call's result. -/
def last (X : FVec Ideal Cert.Kernel3Ideal.S16384x1024 .f32) (A B : FVec Ideal Cert.Kernel3Ideal.S16384x512 .bf16)
    (W : FVec Ideal Cert.Kernel3Ideal.S4x1024x1024 .f32) : FVec Ideal Cert.Kernel3Ideal.S16384x1024 .f32 :=
  fun j => resid X A B W (j 0) (j 1)

section Kernel

open Cert.Kernel3Ideal Cert.Kernel3Ideal.Gen

theorem pay_at (w : Vec Ideal S1x1024x1024 .bf16) (x : Vec Ideal S1024x1024 .f32) (a b : Vec Ideal S1024x512 .bf16)
    (r n : Fin 1024) : k0_pay1 (F := Ideal) w x a b (ix2 r n)
      = rowSum (fun n => x (ix2 r n)) (fun k => a (ix2 r k)) (fun k => b (ix2 r k)) (fun k n => w (ix3 0 k n)) n := by
  pointwise [k0_pay1, rowSum]

/-- The row the call computes from its blocks. -/
def sumRow (x0 : Vec Ideal S1024x1024 .f32) (x1 x2 : Vec Ideal S1024x512 .bf16) (x3 : Vec Ideal S1x1024x1024 .bf16)
    (r : Fin 1024) : Fin 1024 → EReal :=
  rowSum (fun n => x0 (ix2 r n)) (fun k => x1 (ix2 r k)) (fun k => x2 (ix2 r k)) (fun k n => x3 (ix3 0 k n))

theorem val_at (x0 : Vec Ideal S1024x1024 .f32) (x1 x2 : Vec Ideal S1024x512 .bf16) (x3 : Vec Ideal S1x1024x1024 .bf16)
    (r n : Fin 1024) : k0_pay1 (F := Ideal) (View.ld x3 r0_0) (View.ld x0 r0_1) (View.ld x1 r0_2) (View.ld x2 r0_2) (ix2 r n)
      = sumRow x0 x1 x2 x3 r n := by
  rw [pay_at]
  pointwise [sumRow, rowSum]

theorem out_at (x0 : Vec Ideal S1024x1024 .f32) (x1 x2 : Vec Ideal S1024x512 .bf16) (x3 : Vec Ideal S1x1024x1024 .bf16)
    (y : S1024x1024.Idx) : out0_4 (F := Ideal) x0 x1 x2 x3 y = sumRow x0 x1 x2 x3 ⟨y 0, (y 0).isLt⟩ ⟨y 1, (y 1).isLt⟩ := by
  have t : ∀ x : S1024x1024.Idx, (y 0 : ℕ) = x 0 → (y 1 : ℕ) = x 1 →
      k0_pay1 (F := Ideal) (View.ld x3 r0_0) (View.ld x0 r0_1) (View.ld x1 r0_2) (View.ld x2 r0_2) x
        = sumRow x0 x1 x2 x3 ⟨y 0, (y 0).isLt⟩ ⟨y 1, (y 1).isLt⟩ := by
    intro x e0 e1
    rw [eq_ix2 x]
    exact (val_at ..).trans (congrArg₂ (sumRow x0 x1 x2 x3) (Fin.ext e0.symm) (Fin.ext e1.symm))
  unfold out0_4
  canon_tiles x h
  exact t x (by omega) (by omega)

variable (m : (ℓ : Loc nD τ sig) → Buf (Elt Ideal) ℓ)

theorem V_wout (c : Dev nD) :
    V m c main_v0 = (truncf .bf16 (m ((c : Thread nD τ).loc main_arg3) : FVec Ideal S4x1024x1024 .f32) bitsLt_bf16_f32 : FVec Ideal S4x1024x1024 .bf16) := by
  unfold V
  after_reads_simp

theorem idx : ∀ t : Fin cfg0.N, win0_0.index t = ![t.val, 0] ∧ win0_1.index t = ![t.val, 0] ∧ win0_2.index t = ![t.val, 0]
    ∧ win0_3.index t = ![3, 0, 0] ∧ win0_4.index t = ![t.val, 0] ∧ t.val < 16 :=
  (by decide +kernel : ∀ t : Fin grid0.N, _)

/-- Row `r` of the rows that grid point `t` works on. -/
def row (t : Fin cfg0.N) (r : Fin 1024) : Fin 16384 := ⟨t.val * 1024 + r, by have := (idx t).2.2.2.2.2; omega⟩

theorem blk0_at (c : Dev nD) (t : Fin cfg0.N) (r n : Fin 1024) :
    iblk m c 0 t (ix2 r n) = (m ((c : Thread nD τ).loc main_arg0) : FVec Ideal S16384x1024 .f32) (ix2 (row t r) n) := by
  blk_point [iblk, V_main_arg0, idx t, row]

theorem blk1_at (c : Dev nD) (t : Fin cfg0.N) (r : Fin 1024) (k : Fin 512) :
    iblk m c 1 t (ix2 r k) = (m ((c : Thread nD τ).loc main_arg1) : FVec Ideal S16384x512 .bf16) (ix2 (row t r) k) := by
  blk_point [iblk, V_main_arg1, idx t, row]

theorem blk2_at (c : Dev nD) (t : Fin cfg0.N) (r : Fin 1024) (k : Fin 512) :
    iblk m c 2 t (ix2 r k) = (m ((c : Thread nD τ).loc main_arg2) : FVec Ideal S16384x512 .bf16) (ix2 (row t r) k) := by
  blk_point [iblk, V_main_arg2, idx t, row]

theorem blk3_at (c : Dev nD) (t : Fin cfg0.N) (k n : Fin 1024) :
    iblk m c 3 t (ix3 0 k n) = (m ((c : Thread nD τ).loc main_arg3) : FVec Ideal S4x1024x1024 .f32) (ix3 3 k n) := by
  blk_point [iblk, V_wout, idx t]

/-- The blocks' rows are the arrays' rows. -/
theorem sumRow_eq (c : Dev nD) (t : Fin cfg0.N) (r : Fin 1024) :
    sumRow (iblk m c 0 t) (iblk m c 1 t) (iblk m c 2 t) (iblk m c 3 t) r
      = resid (m ((c : Thread nD τ).loc main_arg0)) (m ((c : Thread nD τ).loc main_arg1)) (m ((c : Thread nD τ).loc main_arg2))
        (m ((c : Thread nD τ).loc main_arg3)) (row t r) := by
  funext n
  unfold sumRow resid rowSum
  simp only [blk0_at, blk1_at, blk2_at, blk3_at]

theorem final (c : Dev nD) : (dats m 0 c).arrAt 4 (cfgs 0).N
    = last (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  have ht := (idx t).2.2.2.2.2
  have hy0 : (y 0 : ℕ) < 1024 := (y 0).isLt
  have hy1 : (y 1 : ℕ) < 1024 := (y 1).isLt
  blk_simp
  rw [after0_4]
  refine (out_at _ _ _ _ y).trans ?_
  rw [sumRow_eq]
  unfold last
  blk_point [idx t, row]

end Kernel

section Reference

open Cert.Reference3Ideal Cert.Reference3Ideal.Gen Cert.Reference3Ideal.Read

variable (X : FVec Ideal S16384x1024 .f32) (A B : FVec Ideal S16384x512 .bf16) (W : FVec Ideal S4x1024x1024 .f32)

/-- The mixers' outputs side by side. -/
theorem cat_left (r : Fin 16384) (k : Fin 512) : val_main_v0 (F := Ideal) A B (ix2 r ⟨k, by omega⟩) = A (ix2 r k) := by
  pointwise [val_main_v0]
theorem cat_right (r : Fin 16384) (k : Fin 512) : val_main_v0 (F := Ideal) A B (ix2 r ⟨512 + (k : ℕ), by omega⟩) = B (ix2 r k) := by
  pointwise [val_main_v0]

theorem ref_at (r : Fin 16384) (n : Fin 1024) : val_main_v5 (F := Ideal) X A B W (ix2 r n) = resid X A B W r n := by
  have e : val_main_v5 (F := Ideal) X A B W (ix2 r n)
      = X (ix2 r n) + ∑ k : Fin 1024, val_main_v0 (F := Ideal) A B (ix2 r k) * W (ix3 3 k n) := by
    pointwise [val_main_v5, val_main_v4, val_main_v1, val_main_v3, val_main_v2]
  rw [e, Fin.sum_univ_two_halves 512 512 rfl]
  unfold resid rowSum
  rw [add_assoc]
  refine congrArg _ (congrArg₂ (· + ·) (Finset.sum_congr rfl fun k _ => ?_) (Finset.sum_congr rfl fun k _ => ?_))
  · exact congrArg (· * _) (cat_left A B r k)
  · exact congrArg (· * _) (cat_right A B r k)

theorem ref_last : val_main_v5 (F := Ideal) X A B W = last X A B W := by
  funext j
  rw [eq_ix2 j]
  exact ref_at X A B W _ _

end Reference

end Cert.Last

end
-- ==== Proof.ProjBits.Base.lean ====
/- What the run of the first layer's projection call (`Kernel4`) is stated over: the conditions of its branches at each grid point, its staging buffers and scratch. -/
module

public import proofs.«01_k».proof.Proof.Gen.Kernel4.Launch
public import proofs.«01_k».proof.Proof.Gen.Kernel4.Skeleton
public import proofs.«01_k».proof.Proof.Gen.Kernel4.Points
public import proofs.«01_k».proof.Proof.Gen.Kernel4.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ProjBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4 Cert.Kernel4.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — decided over the grid. -/
theorem hcond0_1 : ∀ t : Fin cfg0.N, cond0_1 (grid0.coords t) ↔ t.val % 2 = 0 :=
  (by decide +kernel : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S512x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x256 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S512x256 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S8x256 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x4x512x256 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x4x512x256 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x4x512x128 .bf16 := win0_26.stage (cfg0.slots t 26)
abbrev hs0_26 (t : Fin cfg0.N) : (ms0_26 t).IsWhole := hstage0_26 ((cfg0.slots t 26).cast nbuf0_26)
/-- The scratch operands: whole scoped buffers of the kernel's own, passed beside the windows. -/
abbrev scM0_0 : Memref sig .tc .vmem S512x2560 .f32 := Memref.whole cc0_scratch0
abbrev scM0_1 : Memref sig .tc .vmem S512x2560 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.ProjBits

end
-- ==== Proof.ProjBits.Run.lean ====
/- The run of the projection call's body. -/
module

public import proofs.«01_k».proof.Proof.ProjBits.Base

@[expose] public section

set_option maxRecDepth 16384

noncomputable section

namespace Cert.ProjBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4 Cert.Kernel4.Gen

variable {F : FTy → Type} [FloatOps F]

local notation "𝕄" => MT nD τ sig Unit (Elt F) ℕ (UR sig nD τ) ℕ

-- the run of a body of this length walks past the default budget
set_option maxHeartbeats 6000000 in
/-- The body on whole staging buffers, in each of its three cases: the inputs' buffers are handed back as they were, every other buffer at some contents. -/
theorem kernelRun (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x2512x1024 .bf16) (harg3 : arg3.IsWhole) (arg4 : Memref sig .tc .vmem S1x256x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x256 .bf16) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x768 .bf16) (harg10 : arg10.IsWhole) (arg11 : Memref sig .tc .vmem S1x1x128 .f32) (harg11 : arg11.IsWhole) (arg12 : Memref sig .tc .vmem S1x128x1024 .bf16) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S8x256 .f32) (harg24 : arg24.IsWhole) (arg25 : Memref sig .tc .vmem S1x4x512x256 .bf16) (harg25 : arg25.IsWhole) (arg26 : Memref sig .tc .vmem S1x4x512x256 .bf16) (harg26 : arg26.IsWhole) (arg27 : Memref sig .tc .vmem S1x4x512x128 .bf16) (harg27 : arg27.IsWhole) (arg28 : Memref sig .tc .vmem S512x2560 .f32) (harg28 : arg28.IsWhole) (arg29 : Memref sig .tc .vmem S512x2560 .f32) (harg29 : arg29.IsWhole) (hc : (cond0_0 i ∧ cond0_1 i ∧ ¬ cond0_2 i) ∨ (¬ cond0_0 i ∧ cond0_1 i ∧ ¬ cond0_2 i) ∨ (¬ cond0_0 i ∧ ¬ cond0_1 i ∧ cond0_2 i))
    (x0 : Vec F S512x1024 .f32) (x1 : Vec F S1x1x1024 .f32) (x2 : Vec F S1x2512x1024 .bf16) (x3 : Vec F S1x256x1024 .bf16) (x4 : Vec F S512x128 .f32) (x5 : Vec F S512x128 .f32) (x6 : Vec F S1x128x256 .bf16) (x7 : Vec F S1x1x256 .f32) (x8 : Vec F S1x1x256 .f32) (x9 : Vec F S1x256x768 .bf16) (x10 : Vec F S1x1x128 .f32) (x11 : Vec F S1x128x1024 .bf16) (x12 : Vec F S1x1x128 .f32) (x13 : Vec F S1x1x128 .f32) (x14 : Vec F S1x1x128 .f32) (x15 : Vec F S1x1x128 .f32) (x16 : Vec F S1x1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d21, %f17, -, H17⟩, ⟨%d22, %f18, -, H18⟩, ⟨%d23, %f19, -, H19⟩, ⟨%d24, %f20, -, H20⟩, ⟨%d25, %f21, -, H21⟩, ⟨%d26, %f22, -, H22⟩, ⟨%d27, %f23, -, H23⟩, ⟨%d28, %f24, -, H24⟩, ⟨%d29, %f25, -, H25⟩, ⟨%d30, %f26, -, H26⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    rcases hc with ⟨hc0, hc1, hc2⟩ | ⟨hc0, hc1, hc2⟩ | ⟨hc0, hc1, hc2⟩
    all_goals
        sl_exec (disch := first | sl_exact hc0 | sl_exact hc1 | sl_exact hc2)
        sl_step
        iapply Hk
        isplitl [H0]
        · iexists _; isplitr; · ipureintro; exact harg1.read_unread _
          iexact H0
        isplitl [H1]
        · iexists _; isplitr; · ipureintro; exact harg2.read_unread _
          iexact H1
        isplitl [H2]
        · iexists _; isplitr; · ipureintro; exact harg3.read_unread _
          iexact H2
        isplitl [H3]
        · iexists _; isplitr; · ipureintro; exact harg4.read_unread _
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr; · ipureintro; exact harg7.read_unread _
          iexact H6
        isplitl [H7]
        · iexists _; isplitr; · ipureintro; exact harg8.read_unread _
          iexact H7
        isplitl [H8]
        · iexists _; isplitr; · ipureintro; exact harg9.read_unread _
          iexact H8
        isplitl [H9]
        · iexists _; isplitr; · ipureintro; exact harg10.read_unread _
          iexact H9
        isplitl [H10]
        · iexists _; isplitr; · ipureintro; exact harg11.read_unread _
          iexact H10
        isplitl [H11]
        · iexists _; isplitr; · ipureintro; exact harg12.read_unread _
          iexact H11
        isplitl [H12]
        · iexists _; isplitr; · ipureintro; exact harg13.read_unread _
          iexact H12
        isplitl [H13]
        · iexists _; isplitr; · ipureintro; exact harg14.read_unread _
          iexact H13
        isplitl [H14]
        · iexists _; isplitr; · ipureintro; exact harg15.read_unread _
          iexact H14
        isplitl [H15]
        · iexists _; isplitr; · ipureintro; exact harg16.read_unread _
          iexact H15
        isplitl [H16]
        · iexists _; isplitr; · ipureintro; exact harg17.read_unread _
          iexact H16
        isplitl [H17]
        · iexists _, _; isplitr; swap; · iexact H17
          ipureintro; rfl
        isplitl [H18]
        · iexists _, _; isplitr; swap; · iexact H18
          ipureintro; rfl
        isplitl [H19]
        · iexists _, _; isplitr; swap; · iexact H19
          ipureintro; rfl
        isplitl [H20]
        · iexists _, _; isplitr; swap; · iexact H20
          ipureintro; rfl
        isplitl [H21]
        · iexists _, _; isplitr; swap; · iexact H21
          ipureintro; rfl
        isplitl [H22]
        · iexists _, _; isplitr; swap; · iexact H22
          ipureintro; rfl
        isplitl [H23]
        · iexists _, _; isplitr; swap; · iexact H23
          ipureintro; rfl
        isplitl [H24]
        · iexists _, _; isplitr; swap; · iexact H24
          ipureintro; rfl
        isplitl [H25]
        · iexists _, _; isplitr; swap; · iexact H25
          ipureintro; rfl
        isplitl [H26]
        · iexists _, _; isplitr; swap; · iexact H26
          ipureintro; rfl
        isplitl [HS0]
        · iexists _, _; isplitr; swap; · iexact HS0
          ipureintro; rfl
        iexists _, _; isplitr; swap; · iexact HS1
        ipureintro; rfl

end Cert.ProjBits

end
-- ==== Proof.ProjBits.Frame.lean ====
/- The frame of the first layer's projection call: the pipeline's proof data, the body at any point of the grid, the launch. -/
module

public import proofs.«01_k».proof.Proof.ProjBits.Run

@[expose] public section

set_option maxRecDepth 16384

noncomputable section

namespace Cert.ProjBits

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4 Cert.Kernel4.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows of which nothing is stated. -/
def forgets0 : Fin 27 → Bool := fun w => w.val == 17 || w.val == 18 || w.val == 19 || w.val == 20 || w.val == 21 || w.val == 22 || w.val == 23 || w.val == 24 || w.val == 25 || w.val == 26

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body hands back of a buffer, window by window. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d))

set_option maxHeartbeats 9600000 in
/-- The body at any point: the inputs' buffers hold their blocks, the point is in one of the run's cases by arithmetic, the
    invariant lends the body its scratch and takes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [leaves0_0, leaves0_1, leaves0_2, leaves0_3, leaves0_4, leaves0_5, leaves0_6, leaves0_7, leaves0_8, leaves0_9, leaves0_10, leaves0_11, leaves0_12, leaves0_13, leaves0_14, leaves0_15, leaves0_16]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 33 := lt_of_lt_of_eq t.isLt (show cfg0.N = 33 from N_0)
  have hc : (cond0_0 (grid0.coords t) ∧ cond0_1 (grid0.coords t) ∧ ¬ cond0_2 (grid0.coords t))
      ∨ (¬ cond0_0 (grid0.coords t) ∧ cond0_1 (grid0.coords t) ∧ ¬ cond0_2 (grid0.coords t))
      ∨ (¬ cond0_0 (grid0.coords t) ∧ ¬ cond0_1 (grid0.coords t) ∧ cond0_2 (grid0.coords t)) := by
    rw [hcond0_0 t, hcond0_1 t, hcond0_2 t]; omega
  iintro ⟨⟨⟨HS0, HS1⟩, Hg⟩, Ho, ⟨%d0, H0⟩, ⟨%d4, H1⟩, ⟨%d5, H2⟩, ⟨%d6, H3⟩, ⟨%d7, H4⟩, ⟨%d8, H5⟩, ⟨%d9, H6⟩, ⟨%d10, H7⟩, ⟨%d11, H8⟩, ⟨%d12, H9⟩, ⟨%d13, H10⟩, ⟨%d14, H11⟩, ⟨%d15, H12⟩, ⟨%d16, H13⟩, ⟨%d17, H14⟩, ⟨%d18, H15⟩, ⟨%d19, H16⟩, ⟨%d21, H17⟩, ⟨%d22, H18⟩, ⟨%d23, H19⟩, ⟨%d24, H20⟩, ⟨%d25, H21⟩, ⟨%d26, H22⟩, ⟨%d27, H23⟩, ⟨%d28, H24⟩, ⟨%d29, H25⟩, ⟨%d30, H26⟩⟩
  iapply ((kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option maxHeartbeats 1860000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel4`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

-- `θ_run_frame_forget`'s implicit arguments are found by unifying its conclusion with this one, which takes unfolding plain
-- definitions in a metavariable's type
set_option backward.isDefEq.respectTransparency.types false in
set_option maxHeartbeats 4000000 in
/-- `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 20, 21, 22, 23, 24, 25, 26, 27, 28, 29, 30) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.ProjBits

end
-- ==== Proof.ProjIdeal.Base.lean ====
/- What the run of the first layer's projection call (`Kernel4Ideal`) is stated over: the conditions of its branches at each grid point, its staging buffers and scratch, and the three results as functions of the blocks the body reads. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel4Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points ≡ 0 (mod 2) — decided over the grid. -/
theorem hcond0_1 : ∀ t : Fin cfg0.N, cond0_1 (grid0.coords t) ↔ t.val % 2 = 0 :=
  (by decide +kernel : ∀ t : Fin grid0.N, cond0_1 (grid0.coords t) ↔ t.val % 2 = 0)

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S512x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S512x512 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x256 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x256 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S512x256 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S8x256 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x4x512x256 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x4x512x256 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1x4x512x128 .bf16 := win0_26.stage (cfg0.slots t 26)
abbrev hs0_26 (t : Fin cfg0.N) : (ms0_26 t).IsWhole := hstage0_26 ((cfg0.slots t 26).cast nbuf0_26)
/-- The scratch operands: whole scoped buffers of the kernel's own, passed beside the windows. -/
abbrev scM0_0 : Memref sig .tc .vmem S512x2560 .f32 := Memref.whole cc0_scratch0
abbrev scM0_1 : Memref sig .tc .vmem S512x2560 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves in the named results, from the blocks it reads -/

/-- The rows of the input projection's weight that the chunk at row `n` reads. -/
abbrev wr0 : Rect S1x2512x1024 := Rect.unit (s := S1x2512x1024) ![0, 512, 0] S1x256x1024.size inb_S1x2512x1024_S1x256x1024_0_512_0
abbrev wr1 : Rect S1x2512x1024 := Rect.unit (s := S1x2512x1024) ![0, 768, 0] S1x256x1024.size inb_S1x2512x1024_S1x256x1024_0_768_0
abbrev wr2 : Rect S1x2512x1024 := Rect.unit (s := S1x2512x1024) ![0, 1040, 0] S1x256x1024.size inb_S1x2512x1024_S1x256x1024_0_1040_0
abbrev wr3 : Rect S1x2512x1024 := Rect.unit (s := S1x2512x1024) ![0, 1296, 0] S1x256x1024.size inb_S1x2512x1024_S1x256x1024_0_1296_0
abbrev wr4 : Rect S1x2512x1024 := Rect.unit (s := S1x2512x1024) ![0, 2000, 0] S1x256x1024.size inb_S1x2512x1024_S1x256x1024_0_2000_0
abbrev wr5 : Rect S1x2512x1024 := Rect.unit (s := S1x2512x1024) ![0, 2256, 0] S1x256x1024.size inb_S1x2512x1024_S1x256x1024_0_2256_0
/-- The whole block and the two halves of a result block. -/
abbrev whole : Rect S512x1024 := Rect.unit (s := S512x1024) ![0, 0] S512x1024.size inb_S512x1024_S512x1024_0_0
abbrev wholeG : Rect S1x1x1024 := Rect.unit (s := S1x1x1024) ![0, 0, 0] S1x1x1024.size inb_S1x1x1024_S1x1x1024_0_0_0
abbrev left : Rect S512x512 := Rect.unit (s := S512x512) ![0, 0] S512x256.size inb_S512x512_S512x256_0_0
abbrev right : Rect S512x512 := Rect.unit (s := S512x512) ![0, 256] S512x256.size inb_S512x512_S512x256_0_256

/-- The norm. -/
def hV (x0 : Vec F S512x1024 .f32) (x1 : Vec F S1x1x1024 .f32) : FVec F S512x1024 .bf16 :=
  k0_pay6 (View.ld x0 whole) (View.ld x1 wholeG)

def gvB (x0 : Vec F S512x1024 .f32) (x1 : Vec F S1x1x1024 .f32) (x2 : Vec F S1x2512x1024 .bf16) : Vec F S512x512 .bf16 :=
  View.canon [⟨right, k0_pay46 (hV x0 x1) (View.ld x2 wr1)⟩, ⟨left, k0_pay16 (hV x0 x1) (View.ld x2 wr0)⟩]
def ggB (x0 : Vec F S512x1024 .f32) (x1 : Vec F S1x1x1024 .f32) (x2 : Vec F S1x2512x1024 .bf16) : Vec F S512x512 .bf16 :=
  View.canon [⟨right, k0_pay48 (hV x0 x1) (View.ld x2 wr3)⟩, ⟨left, k0_pay47 (hV x0 x1) (View.ld x2 wr2)⟩]
def mgB (x0 : Vec F S512x1024 .f32) (x1 : Vec F S1x1x1024 .f32) (x2 : Vec F S1x2512x1024 .bf16) : Vec F S512x512 .bf16 :=
  View.canon [⟨right, k0_pay50 (hV x0 x1) (View.ld x2 wr5)⟩, ⟨left, k0_pay49 (hV x0 x1) (View.ld x2 wr4)⟩]

/-- The stores of a result cover its block. -/
theorem coverH (p q : Vec F S512x256 .bf16) (y : S512x512.Idx) :
    ∃ pc ∈ ([⟨right, p⟩, ⟨left, q⟩] : List (View.Piece (Elt F) S512x512 .bf16)), y ∈ pc.1.set :=
  View.cover_of_tiled [⟨right, p⟩, ⟨left, q⟩] S512x256.size (by rfl) y

/-- What the later stages read of the scratch for the attention's values, and the chunk of columns it is a part of. -/
abbrev ckvR : Rect S512x2560 := Rect.unit (s := S512x2560) ![0, 1792] S512x128.size inb_S512x2560_S512x128_0_1792
abbrev wholeZ : Rect S512x2560 := Rect.unit (s := S512x2560) ![0, 0] S512x2560.size inb_S512x2560_S512x2560_0_0
abbrev mixR : Rect S512x2560 := Rect.unit (s := S512x2560) ![0, 1792] S512x256.size inb_S512x2560_S512x256_0_1792
abbrev wholeM : Rect S1x256x1024 := Rect.unit (s := S1x256x1024) ![0, 0, 0] S1x256x1024.size inb_S1x256x1024_S1x256x1024_0_0_0
abbrev wholeN : Rect S1x1x128 := Rect.unit (s := S1x1x128) ![0, 0, 0] S1x1x128.size inb_S1x1x128_S1x1x128_0_0_0
abbrev wholeU : Rect S1x128x1024 := Rect.unit (s := S1x128x1024) ![0, 0, 0] S1x128x1024.size inb_S1x128x1024_S1x128x1024_0_0_0
/-- The four heads of a block of the attention's values. -/
abbrev head0 : Rect S1x4x512x128 := Rect.unit (s := S1x4x512x128) ![0, 0, 0, 0] S1x1x512x128.size inb_S1x4x512x128_S1x1x512x128_0_0_0_0
abbrev head1 : Rect S1x4x512x128 := Rect.unit (s := S1x4x512x128) ![0, 1, 0, 0] S1x1x512x128.size inb_S1x4x512x128_S1x1x512x128_0_1_0_0
abbrev head2 : Rect S1x4x512x128 := Rect.unit (s := S1x4x512x128) ![0, 2, 0, 0] S1x1x512x128.size inb_S1x4x512x128_S1x1x512x128_0_2_0_0
abbrev head3 : Rect S1x4x512x128 := Rect.unit (s := S1x4x512x128) ![0, 3, 0, 0] S1x1x512x128.size inb_S1x4x512x128_S1x1x512x128_0_3_0_0

/-- What the body leaves in that chunk of the scratch it writes. -/
def mixB (x0 : Vec F S512x1024 .f32) (x1 : Vec F S1x1x1024 .f32) (x3 : Vec F S1x256x1024 .bf16) : Vec F S512x256 .f32 :=
  k0_pay15 (hV x0 x1) (View.ld x3 wholeM)

/-- The product whose last columns are the attention's values, from what is read of the scratch. -/
def kvV (z : Vec F S512x128 .f32) (x10 : Vec F S1x1x128 .f32) (x11 : Vec F S1x128x1024 .bf16) : FVec F S512x1024 .f32 :=
  k0_pay11 z (View.ld x10 wholeN) (View.ld x11 wholeU)

def vB (z : Vec F S512x128 .f32) (x10 : Vec F S1x1x128 .f32) (x11 : Vec F S1x128x1024 .bf16) : Vec F S1x4x512x128 .bf16 :=
  View.canon [⟨head3, k0_pay3 (kvV z x10 x11)⟩, ⟨head2, k0_pay106 (kvV z x10 x11)⟩, ⟨head1, k0_pay100 (kvV z x10 x11)⟩, ⟨head0, k0_pay95 (kvV z x10 x11)⟩]

theorem coverV (p q r s : Vec F S1x1x512x128 .bf16) (y : S1x4x512x128.Idx) :
    ∃ pc ∈ ([⟨head3, p⟩, ⟨head2, q⟩, ⟨head1, r⟩, ⟨head0, s⟩] : List (View.Piece (Elt F) S1x4x512x128 .bf16)), y ∈ pc.1.set :=
  View.cover_of_tiled [⟨head3, p⟩, ⟨head2, q⟩, ⟨head1, r⟩, ⟨head0, s⟩] S1x1x512x128.size (by rfl) y

/-- The odd points compute the same terms as the even ones. -/
theorem odd_gv0 : @k0_pay121 F _ = @k0_pay16 F _ := rfl
theorem odd_gv1 : @k0_pay151 F _ = @k0_pay46 F _ := rfl
theorem odd_mix : @k0_pay120 F _ = @k0_pay15 F _ := rfl
theorem odd_v0 : @k0_pay200 F _ = @k0_pay95 F _ := rfl
theorem odd_v1 : @k0_pay205 F _ = @k0_pay100 F _ := rfl
theorem odd_v2 : @k0_pay211 F _ = @k0_pay106 F _ := rfl
theorem odd_v3 : @k0_pay5 F _ = @k0_pay3 F _ := rfl

/-- The rows a chunk was stored to, read back. -/
theorem readTop {sp : Space} {s : Shape} {e : EltTy} (v : View sig .tc sp s e) (f : BufTy.Contents (Elt F) v.ty) (p : View.Piece (Elt F) s e) (L : List (View.Piece (Elt F) s e)) :
    View.ld (View.read (Elt F) v (v.writes (Elt F) f (p :: L))) p.1 = p.2 :=
  funext fun x => View.read_writes_cons_emb v f p.1 p.2 L x

end Cert.ProjIdeal

end
-- ==== Proof.ProjIdeal.Run.lean ====
/- The run of the projection call's body. -/
module

public import proofs.«01_k».proof.Proof.ProjIdeal.Base

@[expose] public section

set_option maxRecDepth 16384

noncomputable section

namespace Cert.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

-- the run of a body of this length walks past the default budget
set_option maxHeartbeats 6000000 in
/-- The body on whole staging buffers, in each of its three cases: the inputs' buffers are handed back as they were, the four named
    results' at the named blocks, every other buffer at some contents. -/
theorem kernelRun (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x2512x1024 .bf16) (harg3 : arg3.IsWhole) (arg4 : Memref sig .tc .vmem S1x256x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128x256 .bf16) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x768 .bf16) (harg10 : arg10.IsWhole) (arg11 : Memref sig .tc .vmem S1x1x128 .f32) (harg11 : arg11.IsWhole) (arg12 : Memref sig .tc .vmem S1x128x1024 .bf16) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S1x1x128 .f32) (harg16 : arg16.IsWhole) (arg17 : Memref sig .tc .vmem S1x1x128 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x256 .bf16) (harg21 : arg21.IsWhole) (arg22 : Memref sig .tc .vmem S512x256 .bf16) (harg22 : arg22.IsWhole) (arg23 : Memref sig .tc .vmem S512x256 .bf16) (harg23 : arg23.IsWhole) (arg24 : Memref sig .tc .vmem S8x256 .f32) (harg24 : arg24.IsWhole) (arg25 : Memref sig .tc .vmem S1x4x512x256 .bf16) (harg25 : arg25.IsWhole) (arg26 : Memref sig .tc .vmem S1x4x512x256 .bf16) (harg26 : arg26.IsWhole) (arg27 : Memref sig .tc .vmem S1x4x512x128 .bf16) (harg27 : arg27.IsWhole) (arg28 : Memref sig .tc .vmem S512x2560 .f32) (harg28 : arg28.IsWhole) (arg29 : Memref sig .tc .vmem S512x2560 .f32) (harg29 : arg29.IsWhole) (s0 s1 : Vec F S512x2560 .f32) (z : Vec F S512x128 .f32)
    (hc : (cond0_0 i ∧ cond0_1 i ∧ ¬ cond0_2 i ∧ z = arg29.view.readCov [⟨wholeZ, k0_pay1 (F := F)⟩] ckvR.toLoadRect) ∨ (¬ cond0_0 i ∧ cond0_1 i ∧ ¬ cond0_2 i ∧ z = View.ld s1 ckvR) ∨ (¬ cond0_0 i ∧ ¬ cond0_1 i ∧ cond0_2 i ∧ z = View.ld s0 ckvR))
    (x0 : Vec F S512x1024 .f32) (x1 : Vec F S1x1x1024 .f32) (x2 : Vec F S1x2512x1024 .bf16) (x3 : Vec F S1x256x1024 .bf16) (x4 : Vec F S512x128 .f32) (x5 : Vec F S512x128 .f32) (x6 : Vec F S1x128x256 .bf16) (x7 : Vec F S1x1x256 .f32) (x8 : Vec F S1x1x256 .f32) (x9 : Vec F S1x256x768 .bf16) (x10 : Vec F S1x1x128 .f32) (x11 : Vec F S1x128x1024 .bf16) (x12 : Vec F S1x1x128 .f32) (x13 : Vec F S1x1x128 .f32) (x14 : Vec F S1x1x128 .f32) (x15 : Vec F S1x1x128 .f32) (x16 : Vec F S1x1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare s0 ∗ owns (c : Thread nD τ) arg29 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (gvB x0 x1 x2) ∗ owns (c : Thread nD τ) arg19 fullShare (ggB x0 x1 x2) ∗ owns (c : Thread nD τ) arg20 fullShare (mgB x0 x1 x2) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare (vB z x10 x11) ∗ (∃ d, ⌜cond0_1 i → View.ld d mixR = mixB x0 x1 x3⌝ ∗ owns (c : Thread nD τ) arg28 fullShare d) ∗ (∃ d, ⌜cond0_2 i → View.ld d mixR = mixB x0 x1 x3⌝ ∗ owns (c : Thread nD τ) arg29 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d21, %f17, -, H17⟩, ⟨%d22, %f18, -, H18⟩, ⟨%d23, %f19, -, H19⟩, ⟨%d24, %f20, -, H20⟩, ⟨%d25, %f21, -, H21⟩, ⟨%d26, %f22, -, H22⟩, ⟨%d27, %f23, -, H23⟩, ⟨%d28, %f24, -, H24⟩, ⟨%d29, %f25, -, H25⟩, ⟨%d30, %f26, -, H26⟩, ⟨%fs0, %hs0, HS0⟩, ⟨%fs1, %hs1, HS1⟩, Hk⟩
    subst hf0 hf1 hf2 hf3 hf10 hf11 hs0 hs1
    obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hf12; obtain rfl := harg14.eq_unread hf13; obtain rfl := harg15.eq_unread hf14; obtain rfl := harg16.eq_unread hf15; obtain rfl := harg17.eq_unread hf16
    rcases hc with ⟨hc0, hc1, hc2, rfl⟩ | ⟨hc0, hc1, hc2, rfl⟩ | ⟨hc0, hc1, hc2, rfl⟩
    all_goals
        sl_exec (disch := first | sl_exact hc0 | sl_exact hc1 | sl_exact hc2)
        sl_step
        iapply Hk
        isplitl [H0]
        · iexists f0; isplitr; · ipureintro; rfl
          iexact H0
        isplitl [H1]
        · iexists f1; isplitr; · ipureintro; rfl
          iexact H1
        isplitl [H2]
        · iexists f2; isplitr; · ipureintro; rfl
          iexact H2
        isplitl [H3]
        · iexists f3; isplitr; · ipureintro; rfl
          iexact H3
        isplitl [H4]
        · iexists _; isplitr; · ipureintro; exact harg5.read_unread _
          iexact H4
        isplitl [H5]
        · iexists _; isplitr; · ipureintro; exact harg6.read_unread _
          iexact H5
        isplitl [H6]
        · iexists _; isplitr; · ipureintro; exact harg7.read_unread _
          iexact H6
        isplitl [H7]
        · iexists _; isplitr; · ipureintro; exact harg8.read_unread _
          iexact H7
        isplitl [H8]
        · iexists _; isplitr; · ipureintro; exact harg9.read_unread _
          iexact H8
        isplitl [H9]
        · iexists _; isplitr; · ipureintro; exact harg10.read_unread _
          iexact H9
        isplitl [H10]
        · iexists f10; isplitr; · ipureintro; rfl
          iexact H10
        isplitl [H11]
        · iexists f11; isplitr; · ipureintro; rfl
          iexact H11
        isplitl [H12]
        · iexists _; isplitr; · ipureintro; exact harg13.read_unread _
          iexact H12
        isplitl [H13]
        · iexists _; isplitr; · ipureintro; exact harg14.read_unread _
          iexact H13
        isplitl [H14]
        · iexists _; isplitr; · ipureintro; exact harg15.read_unread _
          iexact H14
        isplitl [H15]
        · iexists _; isplitr; · ipureintro; exact harg16.read_unread _
          iexact H15
        isplitl [H16]
        · iexists _; isplitr; · ipureintro; exact harg17.read_unread _
          iexact H16
        isplitl [H17]
        · iexists _; isplitr; swap; · iexact H17
          ipureintro; refine (View.read_writes_eq_canon _ _ _ (coverH _ _)).trans ?_
          rfl
        isplitl [H18]
        · iexists _; isplitr; swap; · iexact H18
          ipureintro; refine (View.read_writes_eq_canon _ _ _ (coverH _ _)).trans ?_
          rfl
        isplitl [H19]
        · iexists _; isplitr; swap; · iexact H19
          ipureintro; refine (View.read_writes_eq_canon _ _ _ (coverH _ _)).trans ?_
          rfl
        isplitl [H20]
        · iexists _, _; isplitr; swap; · iexact H20
          ipureintro; rfl
        isplitl [H21]
        · iexists _, _; isplitr; swap; · iexact H21
          ipureintro; rfl
        isplitl [H22]
        · iexists _, _; isplitr; swap; · iexact H22
          ipureintro; rfl
        isplitl [H23]
        · iexists _, _; isplitr; swap; · iexact H23
          ipureintro; rfl
        isplitl [H24]
        · iexists _, _; isplitr; swap; · iexact H24
          ipureintro; rfl
        isplitl [H25]
        · iexists _, _; isplitr; swap; · iexact H25
          ipureintro; rfl
        isplitl [H26]
        · iexists _; isplitr; swap; · iexact H26
          ipureintro; refine (View.read_writes_eq_canon _ _ _ (coverV _ _ _ _)).trans ?_
          clear * -
          (try simp only [odd_v0, odd_v1, odd_v2, odd_v3])
          rfl
        isplitl [HS0]
        · iexists _; isplitr; swap
          · iexists _; isplitr; swap; · iexact HS0
            ipureintro; rfl
          ipureintro; intro hh
          first | exact absurd hh hc1 | exact (readTop _ _ _ _)
        iexists _; isplitr; swap
        · iexists _; isplitr; swap; · iexact HS1
          ipureintro; rfl
        ipureintro; intro hh
        first | exact absurd hh hc2 | (simp only [odd_mix]; exact (readTop _ _ _ _))

end Cert.ProjIdeal

end
-- ==== Proof.ProjIdeal.Frame.lean ====
/- The frame of the first layer's projection call: the pipeline's proof data, the body at any point of the grid, the launch. -/
module

public import proofs.«01_k».proof.Proof.ProjIdeal.Run
public import Idealize.ShloMosaic.Lib.Pointwise

@[expose] public section

set_option maxRecDepth 16384

noncomputable section

namespace Cert.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows of which nothing is stated. -/
def forgets0 : Fin 27 → Bool := fun w => w.val == 20 || w.val == 21 || w.val == 22 || w.val == 23 || w.val == 24 || w.val == 25

theorem forgets0_17 : forgets0 17 = false := rfl
theorem forgets0_18 : forgets0 18 = false := rfl
theorem forgets0_19 : forgets0 19 = false := rfl
theorem forgets0_26 : forgets0 26 = false := rfl

/-- The point before. -/
def prev (t : Fin cfg0.N) : Fin cfg0.N := ⟨t.val - 1, lt_of_le_of_lt (Nat.sub_le _ _) t.isLt⟩

/-- What point `t` leaves in its chunk of the scratch it writes. -/
def mixAt (c : Dev nD) (t : Fin cfg0.N) : Vec F S512x256 .f32 := mixB (iblk m c 0 t) (iblk m c 1 t) (iblk m c 3 t)

/-- The columns that the later stages read, of a chunk. -/
def firstHalf (w : Vec F S512x256 .f32) : Vec F S512x128 .f32 := fun y => w (ix2 ⟨y 0, (y 0).isLt⟩ ⟨y 1, lt_trans (y 1).isLt (by decide)⟩)

theorem ld_firstHalf (s : Vec F S512x2560 .f32) : View.ld s ckvR = firstHalf (View.ld s mixR) := by
  funext y
  unfold firstHalf
  refine congrArg s (funext fun a => Fin.ext ?_)
  match a with
  | ⟨0, _⟩ => rfl
  | ⟨1, _⟩ => rfl

/-- What the later stages of point `t` read of the scratch: the point before left it; at the first point it is the zeros stored there. -/
def zIn (c : Dev nD) (t : Fin cfg0.N) : Vec F S512x128 .f32 :=
  if t.val = 0 then scM0_1.view.readCov [⟨wholeZ, k0_pay1 (F := F)⟩] ckvR.toLoadRect else firstHalf (mixAt m c (prev t))

/-- What is known of the two scratch buffers before point `n`: the one the point before wrote holds that point's chunk. -/
def Carry (c : Dev nD) (n : ℕ) (s0 s1 : Vec F S512x2560 .f32) : Prop :=
  ∀ u : Fin cfg0.N, u.val + 1 = n → View.ld (if u.val % 2 = 0 then s0 else s1) mixR = mixAt m c u

/-- The invariant: the two scratch buffers, of which `Carry` is known, and the generator register. -/
def Inv (c : Dev nD) (n : ℕ) : sProp 𝕄 :=
  iprop((∃ s0 s1, ⌜Carry m c n s0 s1⌝ ∗ owns (c : Thread nD τ) scM0_0 fullShare s0 ∗ owns (c : Thread nD τ) scM0_1 fullShare s1) ∗ (∃ r, prngReg c r))

/-- The proof data of the one pipeline on core `c`: the arrays as the region finds them (`V`); after the body at
    point `t` each input's buffer at its block and each output stated of at its named block, the others at `Dat.unnamed`; the invariant `Inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => gvB (iblk m c 0 t) (iblk m c 1 t) (iblk m c 2 t)
    | ⟨18, _⟩ => ggB (iblk m c 0 t) (iblk m c 1 t) (iblk m c 2 t)
    | ⟨19, _⟩ => mgB (iblk m c 0 t) (iblk m c 1 t) (iblk m c 2 t)
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, _⟩ => vB (zIn m c t) (iblk m c 10 t) (iblk m c 11 t)
    | ⟨_ + 27, h⟩ => absurd h (Nat.not_lt.2 (Nat.le_add_left _ _))
  Φ t := Inv m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = gvB (iblk m c 0 t) (iblk m c 1 t) (iblk m c 2 t) := by dsimp only [dats]
theorem after0_18 (c : Dev nD) (t : Fin cfg0.N) : (dats m 0 c).after 18 t = ggB (iblk m c 0 t) (iblk m c 1 t) (iblk m c 2 t) := by dsimp only [dats]
theorem after0_19 (c : Dev nD) (t : Fin cfg0.N) : (dats m 0 c).after 19 t = mgB (iblk m c 0 t) (iblk m c 1 t) (iblk m c 2 t) := by dsimp only [dats]
theorem after0_26 (c : Dev nD) (t : Fin cfg0.N) : (dats m 0 c).after 26 t = vB (zIn m c t) (iblk m c 10 t) (iblk m c 11 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

theorem liveAt0_17 : ∀ t : Fin cfg0.N, cfg0.idle 17 (grid0.coords t) = false :=
  (by decide +kernel : ∀ t : Fin grid0.N, idle0 17 (grid0.coords t) = false)
theorem liveAt0_18 : ∀ t : Fin cfg0.N, cfg0.idle 18 (grid0.coords t) = false :=
  (by decide +kernel : ∀ t : Fin grid0.N, idle0 18 (grid0.coords t) = false)
theorem liveAt0_19 : ∀ t : Fin cfg0.N, cfg0.idle 19 (grid0.coords t) = false :=
  (by decide +kernel : ∀ t : Fin grid0.N, idle0 19 (grid0.coords t) = false)
theorem liveAt0_26 : ∀ t : Fin cfg0.N, cfg0.idle 26 (grid0.coords t) = false :=
  (by decide +kernel : ∀ t : Fin grid0.N, idle0 26 (grid0.coords t) = false)

/-- What the body hands back of a buffer, window by window. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
theorem leaves0_17 (c : Dev nD) (t : Fin cfg0.N) : (dats m 0 c).leavesExact 17 t = owns (c : Thread nD τ) (ms0_17 t) fullShare (gvB (iblk m c 0 t) (iblk m c 1 t) (iblk m c 2 t)) := by
  unfold Dat.leavesExact; rw [liveAt0_17 t, after0_17]
theorem leaves0_18 (c : Dev nD) (t : Fin cfg0.N) : (dats m 0 c).leavesExact 18 t = owns (c : Thread nD τ) (ms0_18 t) fullShare (ggB (iblk m c 0 t) (iblk m c 1 t) (iblk m c 2 t)) := by
  unfold Dat.leavesExact; rw [liveAt0_18 t, after0_18]
theorem leaves0_19 (c : Dev nD) (t : Fin cfg0.N) : (dats m 0 c).leavesExact 19 t = owns (c : Thread nD τ) (ms0_19 t) fullShare (mgB (iblk m c 0 t) (iblk m c 1 t) (iblk m c 2 t)) := by
  unfold Dat.leavesExact; rw [liveAt0_19 t, after0_19]
theorem leaves0_26 (c : Dev nD) (t : Fin cfg0.N) : (dats m 0 c).leavesExact 26 t = owns (c : Thread nD τ) (ms0_26 t) fullShare (vB (zIn m c t) (iblk m c 10 t) (iblk m c 11 t)) := by
  unfold Dat.leavesExact; rw [liveAt0_26 t, after0_26]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (dats m 0 c).leavesExact 26 t)

set_option maxHeartbeats 9600000 in
/-- The body at any point: the inputs' buffers hold their blocks, the point is in one of the run's cases by arithmetic, the
    invariant lends the body its scratch and takes it back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_26]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  have hN : t.val < 33 := lt_of_lt_of_eq t.isLt (show cfg0.N = 33 from N_0)
  iintro ⟨⟨⟨%s0, %s1, %hC, HS0, HS1⟩, Hg⟩, Ho, ⟨%d0, H0⟩, ⟨%d4, H1⟩, ⟨%d5, H2⟩, ⟨%d6, H3⟩, ⟨%d7, H4⟩, ⟨%d8, H5⟩, ⟨%d9, H6⟩, ⟨%d10, H7⟩, ⟨%d11, H8⟩, ⟨%d12, H9⟩, ⟨%d13, H10⟩, ⟨%d14, H11⟩, ⟨%d15, H12⟩, ⟨%d16, H13⟩, ⟨%d17, H14⟩, ⟨%d18, H15⟩, ⟨%d19, H16⟩, ⟨%d21, H17⟩, ⟨%d22, H18⟩, ⟨%d23, H19⟩, ⟨%d24, H20⟩, ⟨%d25, H21⟩, ⟨%d26, H22⟩, ⟨%d27, H23⟩, ⟨%d28, H24⟩, ⟨%d29, H25⟩, ⟨%d30, H26⟩⟩
  have hc : (cond0_0 (grid0.coords t) ∧ cond0_1 (grid0.coords t) ∧ ¬ cond0_2 (grid0.coords t) ∧ zIn m c t = scM0_1.view.readCov [⟨wholeZ, k0_pay1 (F := F)⟩] ckvR.toLoadRect)
      ∨ (¬ cond0_0 (grid0.coords t) ∧ cond0_1 (grid0.coords t) ∧ ¬ cond0_2 (grid0.coords t) ∧ zIn m c t = View.ld s1 ckvR)
      ∨ (¬ cond0_0 (grid0.coords t) ∧ ¬ cond0_1 (grid0.coords t) ∧ cond0_2 (grid0.coords t) ∧ zIn m c t = View.ld s0 ckvR) := by
    rw [hcond0_0 t, hcond0_1 t, hcond0_2 t]
    by_cases h0 : t.val = 0
    · exact Or.inl ⟨by omega, by omega, by omega, if_pos h0⟩
    have hp : (prev t).val + 1 = t.val := by simp only [prev]; omega
    have hz : zIn m c t = firstHalf (mixAt m c (prev t)) := if_neg h0
    have hk := hC (prev t) hp
    by_cases he : t.val % 2 = 0
    · rw [if_neg (by omega)] at hk
      exact Or.inr (Or.inl ⟨by omega, by omega, by omega, by rw [hz, ld_firstHalf, hk]⟩)
    · rw [if_pos (by omega)] at hk
      exact Or.inr (Or.inr ⟨by omega, by omega, by omega, by rw [hz, ld_firstHalf, hk]⟩)
  iapply ((kernelRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ s0 s1 (zIn m c t) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, ⟨%e0, %he0, HS0⟩, ⟨%e1, %he1, HS1⟩⟩
  isplitl [HS0 HS1 Hg]
  · isplitl [HS0 HS1]
    · iexists e0, e1
      isplitr
      · ipureintro
        intro u hu
        obtain rfl : u = t := Fin.ext (by omega)
        by_cases he : u.val % 2 = 0
        · rw [if_pos he]; exact he0 ((hcond0_1 u).2 he)
        · rw [if_neg he]; exact he1 ((hcond0_2 u).2 (by omega))
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The invariant at the ends of the run. -/
theorem inv_first (c : Dev nD) : Pipeline.ΦA spec0 c ⊢ Inv m c 0 := by
  rw [PhiA0_eq]
  unfold Inv
  iintro ⟨⟨⟨%d0, H0⟩, ⟨%d1, H1⟩⟩, Hg⟩
  isplitl [H0 H1]
  · iexists d0, d1
    isplitr
    · ipureintro
      intro u hu
      exact absurd hu (Nat.succ_ne_zero _)
    isplitl [H0]
    · iexact H0
    iexact H1
  iexact Hg

theorem inv_last (c : Dev nD) (n : ℕ) : Inv m c n ⊢ Pipeline.ΦA spec0 c := by
  rw [PhiA0_eq]
  unfold Inv
  iintro ⟨⟨%s0, %s1, %hC, H0, H1⟩, Hg⟩
  isplitl [H0 H1]
  · isplitl [H0]
    · iexists s0
      iexact H0
    iexists s1
    iexact H1
  iexact Hg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option maxHeartbeats 1860000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel4Ideal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

-- `θ_run_frame_track_forget`'s implicit arguments are found by unifying its conclusion with this one, which takes unfolding plain
-- definitions in a metavariable's type
set_option backward.isDefEq.respectTransparency.types false in
set_option maxHeartbeats 4000000 in
/-- `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (inv_first m) (fun c => inv_last m c _)

/-- At the compiled mesh, for any values, from any memory with zero counters: every weakly fair execution of @main on the
    TensorCores terminates, and every final state has every INPUT array of the pipeline unchanged, the four results at what the proof data names, nothing stated of the
    FORGOTTEN outputs (windows 20 to 25) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A result's array after the run, read off the run's post at any window it states. -/
theorem final_of (r) (h : Pipeline.RDat.FramePost (cfgs 0) (fun c => (dats m 0 c).toRForget forgets0) (V m) r) (c : Dev nD)
    (w : Fin 27) (hw : forgets0 w = false) :
    r.2.mem ((cfg0.spec w).arr.view.loc (c.tc : Thread nD τ)) = (dats m 0 c).arrAt w cfg0.N :=
  ((dats m 0 c).toRForget_arrAt_iff hw _ _).mp ((h c).1 w)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.ProjIdeal

end
-- ==== Proof.ProjIdeal.Value.lean ====
/- The results of the first layer's projection call as functions of its arguments: one block read at an index, the weights as the
   host prepares them, the arrays. -/
module

public import proofs.«01_k».proof.Proof.ProjIdeal.Frame
public import proofs.«01_k».proof.Proof.FuseIdeal.Tile
public import Idealize.ShloMosaic.Lib.StableHlo.RunRead

@[expose] public section

set_option maxRecDepth 16384

noncomputable section

namespace Cert.ProjIdeal

open Idealize.ShloMosaic Idealize.ShloMosaic.TcCoe Idealize.SL.Sem
open Cert.FuseIdeal (rowNorm rowDot silu)
open Cert.Kernel4Ideal Cert.Kernel4Ideal.Gen

/-! ## One block -/

theorem pay6_at (x : Vec Ideal S512x1024 .f32) (g : Vec Ideal S1x1x1024 .f32) (r : Fin 512) (n : Fin 1024) :
    k0_pay6 (F := Ideal) x g (ix2 r n) = rowNorm (fun n => x (ix2 r n)) (fun n => g (ix3 0 0 n)) n := by
  pointwise [k0_pay6, rowNorm]

theorem pay16_at (h : FVec Ideal S512x1024 .bf16) (u : Vec Ideal S1x256x1024 .bf16) (r : Fin 512) (c : Fin 256) :
    k0_pay16 (F := Ideal) h u (ix2 r c) = rowDot (fun k => h (ix2 r k)) (fun k => u (ix3 0 c k)) := by
  pointwise [k0_pay16, rowDot]
theorem pay46_at (h : FVec Ideal S512x1024 .bf16) (u : Vec Ideal S1x256x1024 .bf16) (r : Fin 512) (c : Fin 256) :
    k0_pay46 (F := Ideal) h u (ix2 r c) = rowDot (fun k => h (ix2 r k)) (fun k => u (ix3 0 c k)) := by
  pointwise [k0_pay46, rowDot]
theorem pay47_at (h : FVec Ideal S512x1024 .bf16) (u : Vec Ideal S1x256x1024 .bf16) (r : Fin 512) (c : Fin 256) :
    k0_pay47 (F := Ideal) h u (ix2 r c) = silu (rowDot (fun k => h (ix2 r k)) (fun k => u (ix3 0 c k))) := by
  pointwise [k0_pay47, rowDot, silu]
  rfl
theorem pay48_at (h : FVec Ideal S512x1024 .bf16) (u : Vec Ideal S1x256x1024 .bf16) (r : Fin 512) (c : Fin 256) :
    k0_pay48 (F := Ideal) h u (ix2 r c) = silu (rowDot (fun k => h (ix2 r k)) (fun k => u (ix3 0 c k))) := by
  pointwise [k0_pay48, rowDot, silu]
  rfl
theorem pay49_at (h : FVec Ideal S512x1024 .bf16) (u : Vec Ideal S1x256x1024 .bf16) (r : Fin 512) (c : Fin 256) :
    k0_pay49 (F := Ideal) h u (ix2 r c) = silu (rowDot (fun k => h (ix2 r k)) (fun k => u (ix3 0 c k))) := by
  pointwise [k0_pay49, rowDot, silu]
  rfl
theorem pay50_at (h : FVec Ideal S512x1024 .bf16) (u : Vec Ideal S1x256x1024 .bf16) (r : Fin 512) (c : Fin 256) :
    k0_pay50 (F := Ideal) h u (ix2 r c) = silu (rowDot (fun k => h (ix2 r k)) (fun k => u (ix3 0 c k))) := by
  pointwise [k0_pay50, rowDot, silu]
  rfl

/-- The norm of a row of the block. -/
def normRow (x0 : Vec Ideal S512x1024 .f32) (x1 : Vec Ideal S1x1x1024 .f32) (r : Fin 512) : Fin 1024 → EReal :=
  rowNorm (fun n => x0 (ix2 r n)) (fun n => x1 (ix3 0 0 n))

theorem hV_at (x0 : Vec Ideal S512x1024 .f32) (x1 : Vec Ideal S1x1x1024 .f32) (r : Fin 512) (n : Fin 1024) :
    hV (F := Ideal) x0 x1 (ix2 r n) = normRow x0 x1 r n := by
  unfold hV normRow
  rw [pay6_at]
  refine congrArg₂ (fun z g => rowNorm z g n) (funext fun k => ?_) (funext fun k => ?_)
  · pointwise
  · pointwise

/-- A result block stored in two halves is one function of its index. -/
theorem half_at (p q : FVec Ideal S512x256 .bf16) (f : Fin 512 → Fin 512 → EReal)
    (hp : ∀ (r : Fin 512) (c : Fin 256), p (ix2 r c) = f r ⟨c, by omega⟩)
    (hq : ∀ (r : Fin 512) (c : Fin 256), q (ix2 r c) = f r ⟨256 + (c : ℕ), by omega⟩) (y : S512x512.Idx) :
    View.canon (Val := Elt Ideal) (e := .bf16) [⟨right, q⟩, ⟨left, p⟩] y = f ⟨y 0, (y 0).isLt⟩ ⟨y 1, (y 1).isLt⟩ := by
  have tp : ∀ x : S512x256.Idx, (y 0 : ℕ) = x 0 → (y 1 : ℕ) = x 1 → p x = f ⟨y 0, (y 0).isLt⟩ ⟨y 1, (y 1).isLt⟩ := by
    intro x e0 e1
    rw [eq_ix2 x]
    exact (hp _ _).trans (congrArg₂ f (Fin.ext e0.symm) (Fin.ext e1.symm))
  have tq : ∀ x : S512x256.Idx, (y 0 : ℕ) = x 0 → (y 1 : ℕ) = 256 + x 1 → q x = f ⟨y 0, (y 0).isLt⟩ ⟨y 1, (y 1).isLt⟩ := by
    intro x e0 e1
    rw [eq_ix2 x]
    exact (hq _ _).trans (congrArg₂ f (Fin.ext e0.symm) (Fin.ext e1.symm))
  canon_tiles x h
  case piece0 => exact tq x (by omega) (by omega)
  case piece1 => exact tp x (by omega) (by omega)

/-- Column `n + c` of the input projection, from the blocks. -/
def col (x0 : Vec Ideal S512x1024 .f32) (x1 : Vec Ideal S1x1x1024 .f32) (x2 : Vec Ideal S1x2512x1024 .bf16) (n : Fin 2001) (r c : Fin 512) : EReal :=
  rowDot (normRow x0 x1 r) fun k => x2 (ix3 0 ⟨(n : ℕ) + c, by omega⟩ k)

/-- The same from the norm as the call stores it and the rows `u` of the weight that one chunk reads. -/
theorem col_of (x0 : Vec Ideal S512x1024 .f32) (x1 : Vec Ideal S1x1x1024 .f32) (x2 : Vec Ideal S1x2512x1024 .bf16) (n : Fin 2001) (r c : Fin 512) (d : Fin 256)
    (u : Vec Ideal S1x256x1024 .bf16) (hu : ∀ k, u (ix3 0 d k) = x2 (ix3 0 ⟨(n : ℕ) + c, by omega⟩ k)) :
    rowDot (fun k => hV (F := Ideal) x0 x1 (ix2 r k)) (fun k => u (ix3 0 d k)) = col x0 x1 x2 n r c := by
  unfold col
  exact congrArg₂ rowDot (funext fun k => hV_at ..) (funext hu)

/-- The rows a chunk reads. -/
theorem rows_at (x2 : Vec Ideal S1x2512x1024 .bf16) (o : ℕ) (h : ∀ a, (![0, o, 0] : Fin 3 → ℕ) a + S1x256x1024.size a ≤ S1x2512x1024.size a)
    (n : ℕ) (c : ℕ) (d : Fin 256) (hn : n + c < 2512) (e : o + d = n + c) (k : Fin 1024) :
    View.ld x2 (Rect.unit (s := S1x2512x1024) ![0, o, 0] S1x256x1024.size h) (ix3 0 d k) = x2 (ix3 0 ⟨n + c, hn⟩ k) := by
  pointwise
  simp only [e]

theorem gv_at (x0 : Vec Ideal S512x1024 .f32) (x1 : Vec Ideal S1x1x1024 .f32) (x2 : Vec Ideal S1x2512x1024 .bf16) (y : S512x512.Idx) :
    gvB (F := Ideal) x0 x1 x2 y = col x0 x1 x2 512 ⟨y 0, (y 0).isLt⟩ ⟨y 1, (y 1).isLt⟩ :=
  half_at _ _ (fun r c => col x0 x1 x2 512 r c)
    (fun r c => (pay16_at ..).trans ((col_of x0 x1 x2 512 r ⟨c, by omega⟩ c _ (rows_at x2 512 _ 512 _ c (by omega) (by first | rfl | (simp only []; omega))))))
    (fun r c => (pay46_at ..).trans ((col_of x0 x1 x2 512 r ⟨256 + (c : ℕ), by omega⟩ c _ (rows_at x2 768 _ 512 _ c (by omega) (by first | rfl | (simp only []; omega)))))) y

theorem gg_at (x0 : Vec Ideal S512x1024 .f32) (x1 : Vec Ideal S1x1x1024 .f32) (x2 : Vec Ideal S1x2512x1024 .bf16) (y : S512x512.Idx) :
    ggB (F := Ideal) x0 x1 x2 y = silu (col x0 x1 x2 1040 ⟨y 0, (y 0).isLt⟩ ⟨y 1, (y 1).isLt⟩) :=
  half_at _ _ (fun r c => silu (col x0 x1 x2 1040 r c))
    (fun r c => (pay47_at ..).trans (congrArg silu (col_of x0 x1 x2 1040 r ⟨c, by omega⟩ c _ (rows_at x2 1040 _ 1040 _ c (by omega) (by first | rfl | (simp only []; omega))))))
    (fun r c => (pay48_at ..).trans (congrArg silu (col_of x0 x1 x2 1040 r ⟨256 + (c : ℕ), by omega⟩ c _ (rows_at x2 1296 _ 1040 _ c (by omega) (by first | rfl | (simp only []; omega)))))) y

theorem mg_at (x0 : Vec Ideal S512x1024 .f32) (x1 : Vec Ideal S1x1x1024 .f32) (x2 : Vec Ideal S1x2512x1024 .bf16) (y : S512x512.Idx) :
    mgB (F := Ideal) x0 x1 x2 y = silu (col x0 x1 x2 2000 ⟨y 0, (y 0).isLt⟩ ⟨y 1, (y 1).isLt⟩) :=
  half_at _ _ (fun r c => silu (col x0 x1 x2 2000 r c))
    (fun r c => (pay49_at ..).trans (congrArg silu (col_of x0 x1 x2 2000 r ⟨c, by omega⟩ c _ (rows_at x2 2000 _ 2000 _ c (by omega) (by first | rfl | (simp only []; omega))))))
    (fun r c => (pay50_at ..).trans (congrArg silu (col_of x0 x1 x2 2000 r ⟨256 + (c : ℕ), by omega⟩ c _ (rows_at x2 2256 _ 2000 _ c (by omega) (by first | rfl | (simp only []; omega)))))) y

/-! ## The arrays -/

variable (m : (ℓ : Loc nD τ sig) → Buf (Elt Ideal) ℓ)

/-- The norms' weights, with a unit axis. -/
theorem V_norm (c : Dev nD) :
    V m c main_v25 = broadcastInDim S4x1x1024 ![0, 2] bcast_S4x1024_S4x1x1024_0_2 (m ((c : Thread nD τ).loc main_arg2)) := by
  unfold V
  simp only [List.flatten_cons, List.flatten_nil, List.append_nil]
  after_reads_simp

/-- The input projections' weight, transposed and cast. -/
theorem V_win (c : Dev nD) :
    V m c main_v1 = truncf .bf16 (transpose S4x2512x1024 [0, 2, 1] (m ((c : Thread nD τ).loc main_arg3) : FVec Ideal S4x1024x2512 .f32)
      transposes_S4x1024x2512_S4x2512x1024_0_2_1 : FVec Ideal S4x2512x1024 .f32) bitsLt_bf16_f32 := by
  unfold V
  simp only [List.flatten_cons, List.flatten_nil, List.append_nil]
  after_reads_simp

/-- The norm of row `r`, with layer 0's weight. -/
def normed (X : FVec Ideal S16384x1024 .f32) (G : FVec Ideal S4x1024 .f32) (r : Fin 16384) : Fin 1024 → EReal :=
  rowNorm (fun n => X (ix2 r n)) fun n => G (ix2 0 n)

/-- Column `n + c` of layer 0's input projection. -/
def proj (X : FVec Ideal S16384x1024 .f32) (G : FVec Ideal S4x1024 .f32) (U : FVec Ideal S4x1024x2512 .f32) (n : Fin 2001)
    (r : Fin 16384) (c : Fin 512) : EReal :=
  rowDot (normed X G r) fun k => U (ix3 0 k ⟨(n : ℕ) + c, by omega⟩)

theorem idx : ∀ t : Fin cfg0.N, win0_0.index t = ![min t.val 31, 0] ∧ win0_1.index t = ![0, 0, 0] ∧ win0_2.index t = ![0, 0, 0]
    ∧ win0_17.index t = ![min t.val 31, 0] ∧ win0_18.index t = ![min t.val 31, 0] ∧ win0_19.index t = ![min t.val 31, 0] :=
  (by decide +kernel : ∀ t : Fin grid0.N, _)

/-- Row `r` of the rows that grid point `t` works on. -/
def row (t : Fin cfg0.N) (r : Fin 512) : Fin 16384 := ⟨min t.val 31 * 512 + r, by omega⟩

theorem blk0_at (c : Dev nD) (t : Fin cfg0.N) (r : Fin 512) (n : Fin 1024) :
    iblk m c 0 t (ix2 r n) = (m ((c : Thread nD τ).loc main_arg0) : FVec Ideal S16384x1024 .f32) (ix2 (row t r) n) := by
  blk_point [iblk, V_main_arg0, idx t, row]

theorem blk1_at (c : Dev nD) (t : Fin cfg0.N) (n : Fin 1024) :
    iblk m c 1 t (ix3 0 0 n) = (m ((c : Thread nD τ).loc main_arg2) : FVec Ideal S4x1024 .f32) (ix2 0 n) := by
  have e : iblk m c 1 t (ix3 0 0 n) = (V m c main_v25 : FVec Ideal S4x1x1024 .f32) (ix3 0 0 n) := by
    blk_point [iblk, idx t]
  rw [e, V_norm]
  pointwise

theorem blk2_at (c : Dev nD) (t : Fin cfg0.N) (k : Fin 1024) (n : Fin 2512) :
    iblk m c 2 t (ix3 0 n k) = (m ((c : Thread nD τ).loc main_arg3) : FVec Ideal S4x1024x2512 .f32) (ix3 0 k n) := by
  have e : iblk m c 2 t (ix3 0 n k) = (V m c main_v1 : FVec Ideal S4x2512x1024 .bf16) (ix3 0 n k) := by
    blk_point [iblk, idx t]
  rw [e, V_win]
  pointwise

/-- The blocks' rows are the arrays' rows. -/
theorem normRow_eq (c : Dev nD) (t : Fin cfg0.N) (r : Fin 512) :
    normRow (iblk m c 0 t) (iblk m c 1 t) r
      = normed (m ((c : Thread nD τ).loc main_arg0)) (m ((c : Thread nD τ).loc main_arg2)) (row t r) := by
  unfold normRow normed
  exact congrArg₂ rowNorm (funext fun n => blk0_at m c t r n) (funext fun n => blk1_at m c t n)

theorem col_eq (c : Dev nD) (t : Fin cfg0.N) (n : Fin 2001) (r k : Fin 512) :
    col (iblk m c 0 t) (iblk m c 1 t) (iblk m c 2 t) n r k
      = proj (m ((c : Thread nD τ).loc main_arg0)) (m ((c : Thread nD τ).loc main_arg2)) (m ((c : Thread nD τ).loc main_arg3)) n (row t r) k := by
  unfold col proj
  rw [normRow_eq]
  exact congrArg (rowDot _) (funext fun j => blk2_at m c t j _)

/-- Three results: the values and the two gates. -/
def gv (X : FVec Ideal S16384x1024 .f32) (G : FVec Ideal S4x1024 .f32) (U : FVec Ideal S4x1024x2512 .f32) : FVec Ideal S16384x512 .bf16 :=
  fun j => proj X G U 512 (j 0) (j 1)
def gg (X : FVec Ideal S16384x1024 .f32) (G : FVec Ideal S4x1024 .f32) (U : FVec Ideal S4x1024x2512 .f32) : FVec Ideal S16384x512 .bf16 :=
  fun j => silu (proj X G U 1040 (j 0) (j 1))
def mg (X : FVec Ideal S16384x1024 .f32) (G : FVec Ideal S4x1024 .f32) (U : FVec Ideal S4x1024x2512 .f32) : FVec Ideal S16384x512 .bf16 :=
  fun j => silu (proj X G U 2000 (j 0) (j 1))

theorem final_gv (c : Dev nD) : (dats m 0 c).arrAt 17 cfg0.N
    = gv (m ((c : Thread nD τ).loc main_arg0)) (m ((c : Thread nD τ).loc main_arg2)) (m ((c : Thread nD τ).loc main_arg3)) := by
  refine (dats m 0 c).arrAt_eq_of_covers 17 _ (by decide +kernel) fun t _ y => ?_
  have hy0 : (y 0 : ℕ) < 512 := (y 0).isLt
  have hy1 : (y 1 : ℕ) < 512 := (y 1).isLt
  blk_simp
  rw [after0_17]
  refine (gv_at _ _ _ y).trans ?_
  rw [col_eq]
  unfold gv
  blk_point [idx t, row]

theorem final_gg (c : Dev nD) : (dats m 0 c).arrAt 18 cfg0.N
    = gg (m ((c : Thread nD τ).loc main_arg0)) (m ((c : Thread nD τ).loc main_arg2)) (m ((c : Thread nD τ).loc main_arg3)) := by
  refine (dats m 0 c).arrAt_eq_of_covers 18 _ (by decide +kernel) fun t _ y => ?_
  have hy0 : (y 0 : ℕ) < 512 := (y 0).isLt
  have hy1 : (y 1 : ℕ) < 512 := (y 1).isLt
  blk_simp
  rw [after0_18]
  refine (gg_at _ _ _ y).trans ?_
  rw [col_eq]
  unfold gg
  blk_point [idx t, row]

theorem final_mg (c : Dev nD) : (dats m 0 c).arrAt 19 cfg0.N
    = mg (m ((c : Thread nD τ).loc main_arg0)) (m ((c : Thread nD τ).loc main_arg2)) (m ((c : Thread nD τ).loc main_arg3)) := by
  refine (dats m 0 c).arrAt_eq_of_covers 19 _ (by decide +kernel) fun t _ y => ?_
  have hy0 : (y 0 : ℕ) < 512 := (y 0).isLt
  have hy1 : (y 1 : ℕ) < 512 := (y 1).isLt
  blk_simp
  rw [after0_19]
  refine (mg_at _ _ _ y).trans ?_
  rw [col_eq]
  unfold mg
  blk_point [idx t, row]

end Cert.ProjIdeal

end
-- ==== Proof.ProjIdeal.Vals.lean ====
/- The attention's values, a result of the first layer's projection call, as a function of its arguments. What a grid point writes of
   them it computes from the columns that the point before left in the scratch, so its block is that of the rows before. -/
module

public import proofs.«01_k».proof.Proof.ProjIdeal.Value
public import proofs.«01_k».proof.Proof.Latent

@[expose] public section

set_option maxRecDepth 16384

noncomputable section

namespace Cert.ProjIdeal

open Idealize.ShloMosaic Idealize.ShloMosaic.TcCoe Idealize.SL.Sem
open Cert.FuseIdeal (rowNorm rowDot silu)
open Cert.Kernel4Ideal Cert.Kernel4Ideal.Gen

/-! ## One block -/

theorem pay15_at (h : FVec Ideal S512x1024 .bf16) (u : Vec Ideal S1x256x1024 .bf16) (r : Fin 512) (c : Fin 256) :
    k0_pay15 (F := Ideal) h u (ix2 r c) = rowDot (fun k => h (ix2 r k)) (fun k => u (ix3 0 c k)) := by
  pointwise [k0_pay15, rowDot]

/-- A chunk's column. -/
theorem mix_at (x0 : Vec Ideal S512x1024 .f32) (x1 : Vec Ideal S1x1x1024 .f32) (x3 : Vec Ideal S1x256x1024 .bf16) (r : Fin 512) (c : Fin 256) :
    mixB (F := Ideal) x0 x1 x3 (ix2 r c) = rowDot (normRow x0 x1 r) (fun k => x3 (ix3 0 c k)) := by
  unfold mixB
  rw [pay15_at]
  refine congrArg₂ rowDot (funext fun k => hV_at ..) (funext fun k => ?_)
  pointwise

theorem pay11_at (z : Vec Ideal S512x128 .f32) (g : Vec Ideal S1x1x128 .f32) (u : Vec Ideal S1x128x1024 .bf16) (r : Fin 512) (n : Fin 1024) :
    k0_pay11 (F := Ideal) z g u (ix2 r n)
      = latDot (latNorm (fun k => z (ix2 r k)) (fun k => g (ix3 0 0 k))) (fun k => u (ix3 0 k n)) := by
  pointwise [k0_pay11, latDot, latNorm]

theorem kv_at (z : Vec Ideal S512x128 .f32) (g : Vec Ideal S1x1x128 .f32) (u : Vec Ideal S1x128x1024 .bf16) (r : Fin 512) (n : Fin 1024) :
    kvV (F := Ideal) z g u (ix2 r n)
      = latDot (latNorm (fun k => z (ix2 r k)) (fun k => g (ix3 0 0 k))) (fun k => u (ix3 0 k n)) := by
  unfold kvV
  rw [pay11_at]
  refine congrArg₂ latDot (congrArg (latNorm _) (funext fun k => ?_)) (funext fun k => ?_)
  · pointwise
  · pointwise

theorem pay95_at (a : FVec Ideal S512x1024 .f32) (r : Fin 512) (d : Fin 128) :
    k0_pay95 (F := Ideal) a (ix4 0 0 r d) = a (ix2 r ⟨512 + (d : ℕ), by omega⟩) := by
  pointwise [k0_pay95]
theorem pay100_at (a : FVec Ideal S512x1024 .f32) (r : Fin 512) (d : Fin 128) :
    k0_pay100 (F := Ideal) a (ix4 0 0 r d) = a (ix2 r ⟨640 + (d : ℕ), by omega⟩) := by
  pointwise [k0_pay100]
theorem pay106_at (a : FVec Ideal S512x1024 .f32) (r : Fin 512) (d : Fin 128) :
    k0_pay106 (F := Ideal) a (ix4 0 0 r d) = a (ix2 r ⟨768 + (d : ℕ), by omega⟩) := by
  pointwise [k0_pay106]
theorem pay3_at (a : FVec Ideal S512x1024 .f32) (r : Fin 512) (d : Fin 128) :
    k0_pay3 (F := Ideal) a (ix4 0 0 r d) = a (ix2 r ⟨896 + (d : ℕ), by omega⟩) := by
  pointwise [k0_pay3]

/-- A block stored head by head is one function of its index. -/
theorem heads_at (p0 p1 p2 p3 : FVec Ideal S1x1x512x128 .bf16) (f : Fin 512 → Fin 1024 → EReal)
    (g0 : ∀ (r : Fin 512) (d : Fin 128), p0 (ix4 0 0 r d) = f r ⟨512 + (d : ℕ), by omega⟩)
    (g1 : ∀ (r : Fin 512) (d : Fin 128), p1 (ix4 0 0 r d) = f r ⟨640 + (d : ℕ), by omega⟩)
    (g2 : ∀ (r : Fin 512) (d : Fin 128), p2 (ix4 0 0 r d) = f r ⟨768 + (d : ℕ), by omega⟩)
    (g3 : ∀ (r : Fin 512) (d : Fin 128), p3 (ix4 0 0 r d) = f r ⟨896 + (d : ℕ), by omega⟩) (y : S1x4x512x128.Idx)
    (n : Fin 1024) (hn : (n : ℕ) = 512 + 128 * y 1 + y 3) :
    View.canon (Val := Elt Ideal) (e := .bf16) [⟨head3, p3⟩, ⟨head2, p2⟩, ⟨head1, p1⟩, ⟨head0, p0⟩] y = f ⟨y 2, (y 2).isLt⟩ n := by
  have t : ∀ (p : FVec Ideal S1x1x512x128 .bf16) (k : ℕ) (hk : k < 4)
      (h : ∀ (r : Fin 512) (d : Fin 128), p (ix4 0 0 r d) = f r ⟨512 + 128 * k + (d : ℕ), by omega⟩) (x : S1x1x512x128.Idx),
      (y 1 : ℕ) = k → (y 2 : ℕ) = x 2 → (y 3 : ℕ) = x 3 → p x = f ⟨y 2, (y 2).isLt⟩ n := by
    intro p k hk h x e1 e2 e3
    have ex : x = ix4 0 0 (x 2) (x 3) := by
      refine (eq_ix4 x).trans ?_
      have a0 : x 0 = (0 : Fin 1) := Subsingleton.elim (α := Fin 1) _ _
      have a1 : x 1 = (0 : Fin 1) := Subsingleton.elim (α := Fin 1) _ _
      rw [a0, a1]
      rfl
    rw [ex]
    exact (h _ _).trans (congrArg₂ f (Fin.ext e2.symm) (Fin.ext (by rw [hn, e1, e3])))
  canon_tiles x h
  case piece0 => exact t p3 3 (by omega) g3 x (by omega) (by omega) (by omega)
  case piece1 => exact t p2 2 (by omega) g2 x (by omega) (by omega) (by omega)
  case piece2 => exact t p1 1 (by omega) g1 x (by omega) (by omega) (by omega)
  case piece3 => exact t p0 0 (by omega) g0 x (by omega) (by omega) (by omega)

theorem v_at (z : Vec Ideal S512x128 .f32) (g : Vec Ideal S1x1x128 .f32) (u : Vec Ideal S1x128x1024 .bf16) (y : S1x4x512x128.Idx)
    (n : Fin 1024) (hn : (n : ℕ) = 512 + 128 * y 1 + y 3) :
    vB (F := Ideal) z g u y
      = latDot (latNorm (fun k => z (ix2 ⟨y 2, (y 2).isLt⟩ k)) (fun k => g (ix3 0 0 k))) (fun k => u (ix3 0 k n)) :=
  (heads_at _ _ _ _ (fun r n => kvV (F := Ideal) z g u (ix2 r n)) (pay95_at _) (pay100_at _) (pay106_at _) (pay3_at _) y n hn).trans
    (kv_at z g u _ n)

/-! ## The arrays -/

variable (m : (ℓ : Loc nD τ sig) → Buf (Elt Ideal) ℓ)

/-- The rows of the input projections' weight that the chunk reads: the latent's first. -/
theorem V_mix (c : Dev nD) (k : Fin 1024) (n : Fin 128) :
    (V m c main_v5 : FVec Ideal S4x256x1024 .bf16) (ix3 0 ⟨n, by omega⟩ k)
      = (m ((c : Thread nD τ).loc main_arg3) : FVec Ideal S4x1024x2512 .f32) (ix3 0 k ⟨1808 + (n : ℕ), by omega⟩) := by
  unfold V
  simp only [List.flatten_cons, List.flatten_nil, List.append_nil]
  after_reads_simp
  pointwise
  rw [dif_pos (by omega)]
  after_reads_simp
  pointwise

/-- The columns of the latent's weight that make the values, head by head, follow those that make the keys. -/
theorem V_ukv (c : Dev nD) (k : Fin 128) (h : Fin 4) (d : Fin 128) :
    (V m c main_v23 : FVec Ideal S4x128x1024 .bf16) (ix3 0 k ⟨512 + 128 * (h : ℕ) + d, by omega⟩)
      = (m ((c : Thread nD τ).loc main_arg9) : FVec Ideal S4x128x1024 .f32) (ix3 0 k ⟨256 * (h : ℕ) + 128 + d, by omega⟩) := by
  unfold V
  simp only [List.flatten_cons, List.flatten_nil, List.append_nil]
  after_reads_simp
  pointwise
  rw [dif_neg (by omega)]
  after_reads_simp
  pointwise
  have e : (512 + 128 * (h : ℕ) + d - 512) / 128 * 256 + (128 + (512 + 128 * (h : ℕ) + d - 512) % 128) = 256 * h + 128 + d := by omega
  simp only [e]

/-- The latent norm's weight, with a unit axis. -/
theorem V_lat (c : Dev nD) :
    V m c main_v28 = broadcastInDim S4x1x128 ![0, 2] bcast_S4x128_S4x1x128_0_2 (m ((c : Thread nD τ).loc main_arg8)) := by
  unfold V
  simp only [List.flatten_cons, List.flatten_nil, List.append_nil]
  after_reads_simp

/-- Column `k` of the latent of row `r`. -/
def lat (X : FVec Ideal S16384x1024 .f32) (G : FVec Ideal S4x1024 .f32) (U : FVec Ideal S4x1024x2512 .f32) (r : Fin 16384) (k : Fin 128) : EReal :=
  rowDot (normed X G r) fun n => U (ix3 0 n ⟨1808 + (k : ℕ), by omega⟩)

/-- The values: row `s` of sequence `b`, head `h`. -/
def vals (X : FVec Ideal S16384x1024 .f32) (G : FVec Ideal S4x1024 .f32) (U : FVec Ideal S4x1024x2512 .f32) (N : FVec Ideal S4x128 .f32)
    (W : FVec Ideal S4x128x1024 .f32) (b : Fin 4) (h : Fin 4) (s : Fin 4096) (d : Fin 128) : EReal :=
  latDot (latNorm (lat X G U ⟨4096 * (b : ℕ) + s, by omega⟩) fun k => N (ix2 0 k))
    fun k => W (ix3 0 k ⟨256 * (h : ℕ) + 128 + d, by omega⟩)

def vv (X : FVec Ideal S16384x1024 .f32) (G : FVec Ideal S4x1024 .f32) (U : FVec Ideal S4x1024x2512 .f32) (N : FVec Ideal S4x128 .f32)
    (W : FVec Ideal S4x128x1024 .f32) : FVec Ideal S4x4x4096x128 .bf16 :=
  fun j => vals X G U N W (j 0) (j 1) (j 2) (j 3)

theorem idxV : ∀ t : Fin cfg0.N, win0_3.index t = ![0, 0, 0] ∧ win0_10.index t = ![0, 0, 0] ∧ win0_11.index t = ![0, 0, 0]
    ∧ win0_26.index t = ![(t.val - 1) / 8, 0, (t.val - 1) % 8, 0] :=
  (by decide +kernel : ∀ t : Fin grid0.N, _)

/-- The first point writes no block of the values back. -/
theorem flush_pos : ∀ t : Fin cfg0.N, (cfg0.win 26).flush t = true → t.val ≠ 0 :=
  (by decide +kernel : ∀ t : Fin grid0.N, (cfg0.win 26).flush t = true → t.val ≠ 0)

theorem blk3_at (c : Dev nD) (t : Fin cfg0.N) (k : Fin 1024) (n : Fin 128) :
    iblk m c 3 t (ix3 0 ⟨n, by omega⟩ k) = (m ((c : Thread nD τ).loc main_arg3) : FVec Ideal S4x1024x2512 .f32) (ix3 0 k ⟨1808 + (n : ℕ), by omega⟩) := by
  have e : iblk m c 3 t (ix3 0 ⟨n, by omega⟩ k) = (V m c main_v5 : FVec Ideal S4x256x1024 .bf16) (ix3 0 ⟨n, by omega⟩ k) := by
    blk_point [iblk, idxV t]
  rw [e, V_mix]

theorem blk10_at (c : Dev nD) (t : Fin cfg0.N) (k : Fin 128) :
    iblk m c 10 t (ix3 0 0 k) = (m ((c : Thread nD τ).loc main_arg8) : FVec Ideal S4x128 .f32) (ix2 0 k) := by
  have e : iblk m c 10 t (ix3 0 0 k) = (V m c main_v28 : FVec Ideal S4x1x128 .f32) (ix3 0 0 k) := by
    blk_point [iblk, idxV t]
  rw [e, V_lat]
  pointwise

theorem blk11_at (c : Dev nD) (t : Fin cfg0.N) (k : Fin 128) (h : Fin 4) (d : Fin 128) :
    iblk m c 11 t (ix3 0 k ⟨512 + 128 * (h : ℕ) + d, by omega⟩)
      = (m ((c : Thread nD τ).loc main_arg9) : FVec Ideal S4x128x1024 .f32) (ix3 0 k ⟨256 * (h : ℕ) + 128 + d, by omega⟩) := by
  have e : iblk m c 11 t (ix3 0 k ⟨512 + 128 * (h : ℕ) + d, by omega⟩)
      = (V m c main_v23 : FVec Ideal S4x128x1024 .bf16) (ix3 0 k ⟨512 + 128 * (h : ℕ) + d, by omega⟩) := by
    blk_point [iblk, idxV t]
  rw [e, V_ukv]

/-- What a point past the first reads of the scratch: the latent of the rows of the point before. -/
theorem zIn_at (c : Dev nD) (t : Fin cfg0.N) (ht : t.val ≠ 0) (r : Fin 512) (k : Fin 128) :
    zIn m c t (ix2 r k) = lat (m ((c : Thread nD τ).loc main_arg0)) (m ((c : Thread nD τ).loc main_arg2)) (m ((c : Thread nD τ).loc main_arg3))
      (row (prev t) r) k := by
  have e : zIn m c t (ix2 r k) = mixAt m c (prev t) (ix2 r ⟨k, by omega⟩) := by
    unfold zIn
    rw [if_neg ht]
    rfl
  rw [e]
  unfold mixAt lat
  rw [mix_at, normRow_eq]
  exact congrArg (rowDot _) (funext fun n => blk3_at m c (prev t) n k)

theorem final_v (c : Dev nD) : (dats m 0 c).arrAt 26 cfg0.N
    = vv (m ((c : Thread nD τ).loc main_arg0)) (m ((c : Thread nD τ).loc main_arg2)) (m ((c : Thread nD τ).loc main_arg3))
      (m ((c : Thread nD τ).loc main_arg8)) (m ((c : Thread nD τ).loc main_arg9)) := by
  refine (dats m 0 c).arrAt_eq_of_covers 26 _ (by decide +kernel) fun t hf y => ?_
  have ht : t.val ≠ 0 := flush_pos t hf
  have hN : t.val < 33 := t.isLt
  have hy0 : (y 0 : ℕ) < 1 := (y 0).isLt
  have hy1 : (y 1 : ℕ) < 4 := (y 1).isLt
  have hy2 : (y 2 : ℕ) < 512 := (y 2).isLt
  have hy3 : (y 3 : ℕ) < 128 := (y 3).isLt
  blk_simp
  rw [after0_26]
  refine (v_at _ _ _ y ⟨512 + 128 * (⟨y 1, hy1⟩ : Fin 4) + (⟨y 3, hy3⟩ : Fin 128), by omega⟩ rfl).trans ?_
  have e1 : (fun k => zIn m c t (ix2 ⟨y 2, (y 2).isLt⟩ k)) = lat (m ((c : Thread nD τ).loc main_arg0)) (m ((c : Thread nD τ).loc main_arg2))
      (m ((c : Thread nD τ).loc main_arg3)) (row (prev t) ⟨y 2, (y 2).isLt⟩) := funext fun k => zIn_at m c t ht _ k
  have e2 : (fun k => iblk m c 10 t (ix3 0 0 k)) = fun k => (m ((c : Thread nD τ).loc main_arg8) : FVec Ideal S4x128 .f32) (ix2 0 k) :=
    funext fun k => blk10_at m c t k
  have e3 : (fun k => iblk m c 11 t (ix3 0 k ⟨512 + 128 * (⟨y 1, hy1⟩ : Fin 4) + (⟨y 3, hy3⟩ : Fin 128), by omega⟩))
      = fun k => (m ((c : Thread nD τ).loc main_arg9) : FVec Ideal S4x128x1024 .f32) (ix3 0 k ⟨256 * ((⟨y 1, hy1⟩ : Fin 4) : ℕ) + 128 + (⟨y 3, hy3⟩ : Fin 128), by omega⟩) :=
    funext fun k => blk11_at m c t k ⟨y 1, hy1⟩ ⟨y 3, hy3⟩
  refine (congrArg₂ latDot (congrArg₂ latNorm e1 e2) e3).trans ?_
  unfold vv vals
  refine congrArg₂ latDot (congrArg (fun z => latNorm z _) (congrArg (lat _ _ _) (Fin.ext ?_))) (funext fun k => congrArg _ (congrArg (ix3 0 k) (Fin.ext ?_)))
  · simp only [row, prev]
    blk_simp [idxV t]
    omega
  · blk_simp [idxV t]

end Cert.ProjIdeal

end
-- ==== Proof.ProjIdeal.RefValue.lean ====
/- The reference's four results at an index: the same functions of the arguments. -/
module

public import proofs.«01_k».proof.Proof.ProjIdeal.Vals
public import proofs.«01_k».proof.Proof.Gen.Reference4Ideal.Read

@[expose] public section

set_option maxRecDepth 16384

noncomputable section

namespace Cert.ProjIdeal

open Idealize.ShloMosaic Idealize.ShloMosaic.TcCoe Idealize.SL.Sem
open Cert.FuseIdeal (rowNorm rowDot silu)
open Cert.Reference4Ideal Cert.Reference4Ideal.Gen Cert.Reference4Ideal.Read

variable (X : FVec Ideal S16384x1024 .f32) (G : FVec Ideal S4x1024 .f32) (U : FVec Ideal S4x1024x2512 .f32)

theorem ref_norm (r : Fin 16384) (n : Fin 1024) : val_main_v14 (F := Ideal) X G (ix2 r n) = normed X G r n := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0,
    val_main_cst_1, normed, rowNorm]

theorem ref_proj (r : Fin 16384) (n : Fin 2512) : val_main_v17 (F := Ideal) X G U (ix2 r n)
    = rowDot (normed X G r) fun k => U (ix3 0 k n) := by
  have e : val_main_v17 (F := Ideal) X G U (ix2 r n)
      = rowDot (fun k => val_main_v14 (F := Ideal) X G (ix2 r k)) fun k => U (ix3 0 k n) := by
    pointwise [val_main_v17, val_main_v16, val_main_v15, rowDot]
  rw [e]
  exact congrArg (rowDot · _) (funext fun k => ref_norm X G r k)

theorem ref_gv : val_main_v43 (F := Ideal) X G U = gv X G U := by
  funext j
  rw [eq_ix2 j]
  have e : ∀ (r : Fin 16384) (c : Fin 512), val_main_v43 (F := Ideal) X G U (ix2 r c)
      = val_main_v17 (F := Ideal) X G U (ix2 r ⟨512 + (c : ℕ), by omega⟩) := fun r c => by
    pointwise [val_main_v43, val_main_v18]
  exact (e _ _).trans (ref_proj X G U _ _)

theorem ref_gg : val_main_v45 (F := Ideal) X G U = gg X G U := by
  funext j
  rw [eq_ix2 j]
  have e : ∀ (r : Fin 16384) (c : Fin 512), val_main_v45 (F := Ideal) X G U (ix2 r c)
      = silu (val_main_v17 (F := Ideal) X G U (ix2 r ⟨1040 + (c : ℕ), by omega⟩)) := fun r c => by
    pointwise [val_main_v45, val_main_v44, val_main_v19, val_main_call0_v5, val_main_call0_v4, val_main_call0_v3, val_main_call0_v2, val_main_call0_v1, val_main_call0_v0, val_main_call0_cst, val_main_call0_cst_0, silu]
  exact (e _ _).trans (congrArg silu (ref_proj X G U _ _))

theorem ref_mg : val_main_v47 (F := Ideal) X G U = mg X G U := by
  funext j
  rw [eq_ix2 j]
  have e : ∀ (r : Fin 16384) (c : Fin 512), val_main_v47 (F := Ideal) X G U (ix2 r c)
      = silu (val_main_v17 (F := Ideal) X G U (ix2 r ⟨2000 + (c : ℕ), by omega⟩)) := fun r c => by
    pointwise [val_main_v47, val_main_v46, val_main_v20, val_main_call1_v5, val_main_call1_v4, val_main_call1_v3, val_main_call1_v2, val_main_call1_v1, val_main_call1_v0, val_main_call1_cst, val_main_call1_cst_0, silu]
  exact (e _ _).trans (congrArg silu (ref_proj X G U _ _))

variable (N : FVec Ideal S4x128 .f32) (W : FVec Ideal S4x128x1024 .f32)

theorem ref_lat (r : Fin 16384) (k : Fin 128) : val_main_v21 (F := Ideal) X G U (ix2 r k) = lat X G U r k := by
  have e : val_main_v21 (F := Ideal) X G U (ix2 r k) = val_main_v17 (F := Ideal) X G U (ix2 r ⟨1808 + (k : ℕ), by omega⟩) := by
    pointwise [val_main_v21]
  exact e.trans (ref_proj X G U _ _)

theorem ref_latNorm (r : Fin 16384) (k : Fin 128) : val_main_v36 (F := Ideal) X G U N (ix2 r k)
    = latNorm (lat X G U r) (fun k => N (ix2 0 k)) k := by
  have e : val_main_v36 (F := Ideal) X G U N (ix2 r k)
      = latNorm (fun k => val_main_v21 (F := Ideal) X G U (ix2 r k)) (fun k => N (ix2 0 k)) k := by
    pointwise [val_main_v36, val_main_v35, val_main_v34, val_main_v33, val_main_v32, val_main_v31, val_main_v30, val_main_v29, val_main_v28, val_main_v27, val_main_v26, val_main_v25, val_main_v24, val_main_v23, val_main_v22, val_main_cst_2, val_main_cst_3,
      val_main_cst_4, latNorm]
  rw [e]
  exact congrArg (fun z => latNorm z _ k) (funext fun k => ref_lat X G U r k)

theorem ref_kv (r : Fin 16384) (n : Fin 1024) : val_main_v39 (F := Ideal) X G U N W (ix2 r n)
    = latDot (latNorm (lat X G U r) fun k => N (ix2 0 k)) fun k => W (ix3 0 k n) := by
  have e : val_main_v39 (F := Ideal) X G U N W (ix2 r n)
      = latDot (fun k => val_main_v36 (F := Ideal) X G U N (ix2 r k)) fun k => W (ix3 0 k n) := by
    pointwise [val_main_v39, val_main_v38, val_main_v37, latDot]
  rw [e]
  exact congrArg (latDot · _) (funext fun k => ref_latNorm X G U N r k)

theorem ref_v : val_main_v48 (F := Ideal) X G U N W = vv X G U N W := by
  funext j
  rw [eq_ix4 j]
  have e : ∀ (b h : Fin 4) (s : Fin 4096) (d : Fin 128), val_main_v48 (F := Ideal) X G U N W (ix4 b h s d)
      = val_main_v39 (F := Ideal) X G U N W (ix2 ⟨4096 * (b : ℕ) + s, by omega⟩ ⟨256 * (h : ℕ) + 128 + d, by omega⟩) := fun b h s d => by
    pointwise [val_main_v48, val_main_v42, val_main_v41, val_main_v40]
    refine congrArg₂ (fun r n => val_main_v39 (F := Ideal) X G U N W (ix2 r n)) (Fin.ext ?_) (Fin.ext ?_)
    · simp only []
      omega
    · simp only []
      omega
  exact (e _ _ _ _).trans (ref_kv X G U N W _ _)

end Cert.ProjIdeal

end
-- ==== Proof.lean ====
/- The certificate of four calls (the attention; the projection call between two layers; the output projection after the last
   layer; the projection call before the first): the frames of each kernel, of its idealization and of its reference, and the equality of the kernel's results with the
   reference's at the ideal numbers (of the attention, from finite queries and keys). -/
module

public import proofs.«01_k».proof.Proof.Gen.ReferenceIdeal.Run
public import proofs.«01_k».proof.Proof.Gen.ReferenceIdeal.Read
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.RefValue
public import proofs.«01_k».proof.Proof.Finite
public import proofs.«01_k».proof.Proof.FuseBits.Frame
public import proofs.«01_k».proof.Proof.FuseIdeal.Frame
public import proofs.«01_k».proof.Proof.FuseIdeal.RefValue
public import proofs.«01_k».proof.Proof.Last
public import proofs.«01_k».proof.Proof.ProjBits.Frame
public import proofs.«01_k».proof.Proof.ProjIdeal.Frame
public import proofs.«01_k».proof.Proof.ProjIdeal.RefValue
public import Idealize.ShloMosaic.Adequacy
public import Idealize.ShloMosaic.Init

@[expose] public section

noncomputable section

namespace Cert.Proof

open Idealize.ShloMosaic Idealize.SL.Sem

theorem frame_reference : Cert.quiescent_ReferenceIdeal := by
  intro m g _
  refine (θ_run Cert.ReferenceIdeal.defs _ _).mono (fun r h => ⟨fun c => (h c).2, ?_⟩) (Cert.ReferenceIdeal.Value.run (F := Ideal) m g)
  exact sem_eq_zero_of_no_sems (by decide) r.2

/-- The kernel's result is the reference's: the same attention. -/
theorem algebraic : Cert.algebraic_KernelIdeal_ReferenceIdeal_pre_finite_qk := by
  intro m g m' g' hpre hag
  refine ⟨fun c => Cert.Attn.attn (m (c.tc.loc Cert.KernelIdeal.main_arg0)) (m (c.tc.loc Cert.KernelIdeal.main_arg1))
    (m (c.tc.loc Cert.KernelIdeal.main_arg2)) (m (c.tc.loc Cert.KernelIdeal.main_arg3)), ?_, ?_⟩
  · run_from Cert.KernelIdeal.Value.run_blocks m g
    exact Cert.Attn.final m c
  · run_from Cert.ReferenceIdeal.Value.run m' g'
    obtain ⟨hQ, hK⟩ := Cert.Attn.finite_of_pre _ _ _ _ (hpre c)
    obtain ⟨h0, h1, h2, h3⟩ := hag c
    rw [Cert.ReferenceIdeal.Read.val_main_v31_eq, h0, h1, h2, h3]
    exact Cert.Attn.ref_eq _ _ _ _ hQ hK

theorem frame_reference2 : Cert.quiescent_Reference2Ideal := by
  intro m g _
  refine (θ_run Cert.Reference2Ideal.defs _ _).mono (fun r h => ⟨fun c => (h c).2.2.2.2.2, ?_⟩) (Cert.Reference2Ideal.Value.run (F := Ideal) m g)
  exact sem_eq_zero_of_no_sems (by decide) r.2

set_option maxHeartbeats 4000000 in
/-- The projection call's results are the reference's. -/
theorem algebraic2 : Cert.algebraic_Kernel2Ideal_Reference2Ideal := by
  intro m g m' g' _ hag
  refine ⟨fun c => Cert.FuseIdeal.xo (m (c.tc.loc Cert.Kernel2Ideal.main_arg0)) (m (c.tc.loc Cert.Kernel2Ideal.main_arg1))
      (m (c.tc.loc Cert.Kernel2Ideal.main_arg2)) (m (c.tc.loc Cert.Kernel2Ideal.main_arg14)),
    fun c => Cert.FuseIdeal.gv (m (c.tc.loc Cert.Kernel2Ideal.main_arg0)) (m (c.tc.loc Cert.Kernel2Ideal.main_arg1))
      (m (c.tc.loc Cert.Kernel2Ideal.main_arg2)) (m (c.tc.loc Cert.Kernel2Ideal.main_arg4)) (m (c.tc.loc Cert.Kernel2Ideal.main_arg5))
      (m (c.tc.loc Cert.Kernel2Ideal.main_arg14)),
    fun c => Cert.FuseIdeal.gg (m (c.tc.loc Cert.Kernel2Ideal.main_arg0)) (m (c.tc.loc Cert.Kernel2Ideal.main_arg1))
      (m (c.tc.loc Cert.Kernel2Ideal.main_arg2)) (m (c.tc.loc Cert.Kernel2Ideal.main_arg4)) (m (c.tc.loc Cert.Kernel2Ideal.main_arg5))
      (m (c.tc.loc Cert.Kernel2Ideal.main_arg14)),
    fun c => Cert.FuseIdeal.mg (m (c.tc.loc Cert.Kernel2Ideal.main_arg0)) (m (c.tc.loc Cert.Kernel2Ideal.main_arg1))
      (m (c.tc.loc Cert.Kernel2Ideal.main_arg2)) (m (c.tc.loc Cert.Kernel2Ideal.main_arg4)) (m (c.tc.loc Cert.Kernel2Ideal.main_arg5))
      (m (c.tc.loc Cert.Kernel2Ideal.main_arg14)),
    fun c => Cert.FuseIdeal.vv (m (c.tc.loc Cert.Kernel2Ideal.main_arg0)) (m (c.tc.loc Cert.Kernel2Ideal.main_arg1))
      (m (c.tc.loc Cert.Kernel2Ideal.main_arg2)) (m (c.tc.loc Cert.Kernel2Ideal.main_arg4)) (m (c.tc.loc Cert.Kernel2Ideal.main_arg5))
      (m (c.tc.loc Cert.Kernel2Ideal.main_arg14)) (m (c.tc.loc Cert.Kernel2Ideal.main_arg10)) (m (c.tc.loc Cert.Kernel2Ideal.main_arg11)), ?_, ?_⟩
  · refine (θ_run Cert.Kernel2Ideal.defs _ _).mono (fun r h c => ⟨?_, ?_, ?_, ?_, ?_, h.2 c⟩)
      (θ_run_and (Cert.FuseIdeal.run_main m g) (Cert.FuseIdeal.unchanged m g))
    · exact (Cert.FuseIdeal.final_of m r h.1 c 20 Cert.FuseIdeal.forgets0_20).trans (Cert.FuseIdeal.final_xo m c)
    · exact (Cert.FuseIdeal.final_of m r h.1 c 21 Cert.FuseIdeal.forgets0_21).trans (Cert.FuseIdeal.final_gv m c)
    · exact (Cert.FuseIdeal.final_of m r h.1 c 22 Cert.FuseIdeal.forgets0_22).trans (Cert.FuseIdeal.final_gg m c)
    · exact (Cert.FuseIdeal.final_of m r h.1 c 23 Cert.FuseIdeal.forgets0_23).trans (Cert.FuseIdeal.final_mg m c)
    · exact (Cert.FuseIdeal.final_of m r h.1 c 30 Cert.FuseIdeal.forgets0_30).trans (Cert.FuseIdeal.final_v m c)
  · refine (θ_run Cert.Reference2Ideal.defs _ _).mono (fun r h c => ?_) (Cert.Reference2Ideal.Value.run (F := Ideal) m' g')
    obtain ⟨h0, h1, h2, -, h4, h5, -, -, -, -, h10, h11, -, -, h14⟩ := hag c
    obtain ⟨e0, e1, e2, e3, e4, hr⟩ := h c
    rw [Cert.Reference2Ideal.Read.val_main_v5_eq, h0, h1, h2, h14, Cert.FuseIdeal.ref_xo] at e0
    rw [Cert.Reference2Ideal.Read.val_main_v49_eq, h0, h1, h2, h4, h5, h14, Cert.FuseIdeal.ref_gv] at e1
    rw [Cert.Reference2Ideal.Read.val_main_v51_eq, h0, h1, h2, h4, h5, h14, Cert.FuseIdeal.ref_gg] at e2
    rw [Cert.Reference2Ideal.Read.val_main_v53_eq, h0, h1, h2, h4, h5, h14, Cert.FuseIdeal.ref_mg] at e3
    rw [Cert.Reference2Ideal.Read.val_main_v54_eq, h0, h1, h2, h4, h5, h10, h11, h14, Cert.FuseIdeal.ref_v] at e4
    exact ⟨e0, e1, e2, e3, e4, hr⟩

theorem frame_reference3 : Cert.quiescent_Reference3Ideal := by
  intro m g _
  refine (θ_run Cert.Reference3Ideal.defs _ _).mono (fun r h => ⟨fun c => (h c).2, ?_⟩) (Cert.Reference3Ideal.Value.run (F := Ideal) m g)
  exact sem_eq_zero_of_no_sems (by decide) r.2

/-- The last layer's output projection is the reference's. -/
theorem algebraic3 : Cert.algebraic_Kernel3Ideal_Reference3Ideal := by
  intro m g m' g' _ hag
  refine ⟨fun c => Cert.Last.last (m (c.tc.loc Cert.Kernel3Ideal.main_arg0)) (m (c.tc.loc Cert.Kernel3Ideal.main_arg1))
    (m (c.tc.loc Cert.Kernel3Ideal.main_arg2)) (m (c.tc.loc Cert.Kernel3Ideal.main_arg3)), ?_, ?_⟩
  · run_from Cert.Kernel3Ideal.Value.run_blocks m g
    exact Cert.Last.final m c
  · run_from Cert.Reference3Ideal.Value.run m' g'
    obtain ⟨h0, h1, h2, h3⟩ := hag c
    rw [Cert.Reference3Ideal.Read.val_main_v5_eq, h0, h1, h2, h3]
    exact Cert.Last.ref_last _ _ _ _

theorem frame_reference4 : Cert.quiescent_Reference4Ideal := by
  intro m g _
  refine (θ_run Cert.Reference4Ideal.defs _ _).mono (fun r h => ⟨fun c => (h c).2.2.2.2, ?_⟩) (Cert.Reference4Ideal.Value.run (F := Ideal) m g)
  exact sem_eq_zero_of_no_sems (by decide) r.2

set_option maxHeartbeats 4000000 in
/-- The first layer's projection call's results are the reference's. -/
theorem algebraic4 : Cert.algebraic_Kernel4Ideal_Reference4Ideal := by
  intro m g m' g' _ hag
  refine ⟨fun c => Cert.ProjIdeal.gv (m (c.tc.loc Cert.Kernel4Ideal.main_arg0)) (m (c.tc.loc Cert.Kernel4Ideal.main_arg2))
      (m (c.tc.loc Cert.Kernel4Ideal.main_arg3)),
    fun c => Cert.ProjIdeal.gg (m (c.tc.loc Cert.Kernel4Ideal.main_arg0)) (m (c.tc.loc Cert.Kernel4Ideal.main_arg2))
      (m (c.tc.loc Cert.Kernel4Ideal.main_arg3)),
    fun c => Cert.ProjIdeal.mg (m (c.tc.loc Cert.Kernel4Ideal.main_arg0)) (m (c.tc.loc Cert.Kernel4Ideal.main_arg2))
      (m (c.tc.loc Cert.Kernel4Ideal.main_arg3)),
    fun c => Cert.ProjIdeal.vv (m (c.tc.loc Cert.Kernel4Ideal.main_arg0)) (m (c.tc.loc Cert.Kernel4Ideal.main_arg2))
      (m (c.tc.loc Cert.Kernel4Ideal.main_arg3)) (m (c.tc.loc Cert.Kernel4Ideal.main_arg8)) (m (c.tc.loc Cert.Kernel4Ideal.main_arg9)), ?_, ?_⟩
  · refine (θ_run Cert.Kernel4Ideal.defs _ _).mono (fun r h c => ⟨?_, ?_, ?_, ?_, h.2 c⟩)
      (θ_run_and (Cert.ProjIdeal.run_main m g) (Cert.ProjIdeal.unchanged m g))
    · exact (Cert.ProjIdeal.final_of m r h.1 c 17 Cert.ProjIdeal.forgets0_17).trans (Cert.ProjIdeal.final_gv m c)
    · exact (Cert.ProjIdeal.final_of m r h.1 c 18 Cert.ProjIdeal.forgets0_18).trans (Cert.ProjIdeal.final_gg m c)
    · exact (Cert.ProjIdeal.final_of m r h.1 c 19 Cert.ProjIdeal.forgets0_19).trans (Cert.ProjIdeal.final_mg m c)
    · exact (Cert.ProjIdeal.final_of m r h.1 c 26 Cert.ProjIdeal.forgets0_26).trans (Cert.ProjIdeal.final_v m c)
  · refine (θ_run Cert.Reference4Ideal.defs _ _).mono (fun r h c => ?_) (Cert.Reference4Ideal.Value.run (F := Ideal) m' g')
    obtain ⟨h0, -, h2, h3, -, -, -, -, h8, h9, -⟩ := hag c
    obtain ⟨e1, e2, e3, e4, hr⟩ := h c
    rw [Cert.Reference4Ideal.Read.val_main_v43_eq, h0, h2, h3, Cert.ProjIdeal.ref_gv] at e1
    rw [Cert.Reference4Ideal.Read.val_main_v45_eq, h0, h2, h3, Cert.ProjIdeal.ref_gg] at e2
    rw [Cert.Reference4Ideal.Read.val_main_v47_eq, h0, h2, h3, Cert.ProjIdeal.ref_mg] at e3
    rw [Cert.Reference4Ideal.Read.val_main_v48_eq, h0, h2, h3, h8, h9, Cert.ProjIdeal.ref_v] at e4
    exact ⟨e1, e2, e3, e4, hr⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Attn.preFacts,
    fun m g _ => Cert.Kernel.Gen.frame m g, fun m g _ => Cert.KernelIdeal.Gen.frame m g,
    fun m g _ => Cert.KernelIdeal.Gen.frame m g, frame_reference, fun m g _ => frame_reference m g trivial,
    fun m g _ => Cert.FuseBits.frame m g, fun m g _ => Cert.FuseIdeal.frame m g, frame_reference2,
    fun m g _ => Cert.Kernel3.Gen.frame m g, fun m g _ => Cert.Kernel3Ideal.Gen.frame m g, frame_reference3,
    fun m g _ => Cert.ProjBits.frame m g, fun m g _ => Cert.ProjIdeal.frame m g, frame_reference4,
    trivial, algebraic, trivial, algebraic2, trivial, algebraic3, trivial, algebraic4⟩

end Cert.Proof

end
